-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_unit_covariances [hPre_unit_covariances : Cert.Pre_unit_covariances.Facts] (m : (ℓ : Loc Cert.KernelIdeal.nD Cert.KernelIdeal.τ Cert.KernelIdeal.sig) → Buf (Elt Ideal) ℓ) : Prop :=
  ∀ c : Dev Cert.KernelIdeal.nD,
    (Cert.Pre_unit_covariances.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_unit_covariances [hPre_unit_covariances : Cert.Pre_unit_covariances.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_unit_covariances.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_unit_covariances [hKernelIdeal : Cert.KernelIdeal.Facts] [hPre_unit_covariances : Cert.Pre_unit_covariances.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_unit_covariances m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_unit_covariances [hReferenceIdeal : Cert.ReferenceIdeal.Facts] [hPre_unit_covariances : Cert.Pre_unit_covariances.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_unit_covariances m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_unit_covariances [hKernelIdeal : Cert.KernelIdeal.Facts] [hReferenceIdeal : Cert.ReferenceIdeal.Facts] [hPre_unit_covariances : Cert.Pre_unit_covariances.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_unit_covariances m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_arg0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_v712) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_unit_covariances : Cert.Pre_unit_covariances.Facts),
    quiescent_Kernel (hKernel := hKernel)
    ∧ quiescent_KernelIdeal (hKernelIdeal := hKernelIdeal)
    ∧ quiescent_KernelIdeal_pre_unit_covariances (hKernelIdeal := hKernelIdeal) (hPre_unit_covariances := hPre_unit_covariances)
    ∧ quiescent_ReferenceIdeal (hReferenceIdeal := hReferenceIdeal)
    ∧ quiescent_ReferenceIdeal_pre_unit_covariances (hReferenceIdeal := hReferenceIdeal) (hPre_unit_covariances := hPre_unit_covariances)
    ∧ preserves_Kernel_KernelIdeal
    ∧ algebraic_KernelIdeal_ReferenceIdeal_pre_unit_covariances (hKernelIdeal := hKernelIdeal) (hReferenceIdeal := hReferenceIdeal) (hPre_unit_covariances := hPre_unit_covariances)
-- ==== Pre_unit_covariances.lean ====
abbrev S16384x10 : Shape := ⟨2, ![16384, 10]⟩
abbrev S16 : Shape := ⟨1, ![16]⟩
abbrev S16x16 : Shape := ⟨2, ![16, 16]⟩
abbrev S_ : Shape := ⟨0, ![]⟩

class Facts : Prop where
  bcast_S_S16x16 : S_.BroadcastsInDim S16x16 (![] : Fin 0 → Fin S16x16.rank)

variable [Facts]

def fn {F : FTy → Type} [FloatOps F] (main_arg0 : FVec F S16384x10 .f32) (main_arg1 : FVec F S16 .f32) (main_arg2 : FVec F S16x16 .f32) (main_arg3 : FVec F S16 .f32) (main_arg4 : FVec F S16x16 .f32) : IVec S16x16 1 :=
  let main_v0 : IVec S16x16 32 := iotaInDim S16x16 32 0
  let main_v1 : IVec S16x16 32 := iotaInDim S16x16 32 1
  let main_c : IVec S_ 32 := constantI S_ 32 0#32
  let main_v2 : IVec S16x16 32 := broadcastInDim S16x16 ![] bcast_S_S16x16 main_c
  let main_v3 : IVec S16x16 32 := addi main_v0 main_v2
  let main_v4 : IVec S16x16 1 := cmpi .eq main_v3 main_v1
  let main_v5 : FVec F S16x16 .f32 := uitofp .f32 main_v4
  let main_v6 : IVec S16x16 1 := cmpf .oeq main_arg2 main_v5
  let main_v7 : IVec S16x16 1 := cmpf .oeq main_arg4 main_v5
  let main_v8 : IVec S16x16 1 := andi main_v6 main_v7
  main_v8
-- ==== Kernel.lean ====
abbrev S16384x10 : Shape := ⟨2, ![16384, 10]⟩
abbrev S16 : Shape := ⟨1, ![16]⟩
abbrev S16x16 : Shape := ⟨2, ![16, 16]⟩
abbrev S1x16 : Shape := ⟨2, ![1, 16]⟩
abbrev S8x16 : Shape := ⟨2, ![8, 16]⟩
abbrev S128 : Shape := ⟨1, ![128]⟩
abbrev S1x128 : Shape := ⟨2, ![1, 128]⟩
abbrev S16384x16 : Shape := ⟨2, ![16384, 16]⟩
abbrev S4096x10 : Shape := ⟨2, ![4096, 10]⟩
abbrev S4096x16 : Shape := ⟨2, ![4096, 16]⟩
abbrev S4096x5 : Shape := ⟨2, ![4096, 5]⟩
abbrev S4096 : Shape := ⟨1, ![4096]⟩
abbrev S4096x1 : Shape := ⟨2, ![4096, 1]⟩
abbrev S512x1 : Shape := ⟨2, ![512, 1]⟩
abbrev S512x16 : Shape := ⟨2, ![512, 16]⟩
abbrev S512x128 : Shape := ⟨2, ![512, 128]⟩

abbrev nBuf : Space → Nat
  | .hbm => 14
  | .vmem => 6
  | .smem => 0
  | _ => 0

abbrev bufTy : (tb : Table) → Fin (tcTables nBuf tb) → BufTy
  | .hbm, ⟨0, _⟩ => ⟨S16384x10, .f32⟩
  | .hbm, ⟨1, _⟩ => ⟨S16, .f32⟩
  | .hbm, ⟨2, _⟩ => ⟨S16x16, .f32⟩
  | .hbm, ⟨3, _⟩ => ⟨S16, .f32⟩
  | .hbm, ⟨4, _⟩ => ⟨S16x16, .f32⟩
  | .hbm, ⟨5, _⟩ => ⟨S1x16, .f32⟩
  | .hbm, ⟨6, _⟩ => ⟨S8x16, .f32⟩
  | .hbm, ⟨7, _⟩ => ⟨S128, .f32⟩
  | .hbm, ⟨8, _⟩ => ⟨S1x128, .f32⟩
  | .hbm, ⟨9, _⟩ => ⟨S1x16, .f32⟩
  | .hbm, ⟨10, _⟩ => ⟨S8x16, .f32⟩
  | .hbm, ⟨11, _⟩ => ⟨S128, .f32⟩
  | .hbm, ⟨12, _⟩ => ⟨S1x128, .f32⟩
  | .hbm, ⟨13, _⟩ => ⟨S16384x16, .f32⟩
  | .local _ .vmem, ⟨0, _⟩ => ⟨S4096x10, .f32⟩
  | .local _ .vmem, ⟨1, _⟩ => ⟨S4096x10, .f32⟩
  | .local _ .vmem, ⟨2, _⟩ => ⟨S1x128, .f32⟩
  | .local _ .vmem, ⟨3, _⟩ => ⟨S1x128, .f32⟩
  | .local _ .vmem, ⟨4, _⟩ => ⟨S4096x16, .f32⟩
  | .local _ .vmem, ⟨5, _⟩ => ⟨S4096x16, .f32⟩
  | _, _ => ⟨S16384x10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_v0_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x10 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S16384x10 : Shape := ⟨2, ![16384, 10]⟩
abbrev S16 : Shape := ⟨1, ![16]⟩
abbrev S16x16 : Shape := ⟨2, ![16, 16]⟩
abbrev S_ : Shape := ⟨0, ![]⟩
abbrev S16384 : Shape := ⟨1, ![16384]⟩
abbrev S16384x1 : Shape := ⟨2, ![16384, 1]⟩
abbrev S2 : Shape := ⟨1, ![2]⟩
abbrev S2x1 : Shape := ⟨2, ![2, 1]⟩
abbrev S2x2 : Shape := ⟨2, ![2, 2]⟩
abbrev S1x16 : Shape := ⟨2, ![1, 16]⟩
abbrev S2x16 : Shape := ⟨2, ![2, 16]⟩
abbrev S1x16x16 : Shape := ⟨3, ![1, 16, 16]⟩
abbrev S2x16x16 : Shape := ⟨3, ![2, 16, 16]⟩
abbrev S2x16x1 : Shape := ⟨3, ![2, 16, 1]⟩
abbrev S2x1x1 : Shape := ⟨3, ![2, 1, 1]⟩
abbrev S2x1x16 : Shape := ⟨3, ![2, 1, 16]⟩
abbrev S262144 : Shape := ⟨1, ![262144]⟩
abbrev S16384x16 : Shape := ⟨2, ![16384, 16]⟩
abbrev S1x16384x16 : Shape := ⟨3, ![1, 16384, 16]⟩
abbrev S2x16384x16 : Shape := ⟨3, ![2, 16384, 16]⟩

abbrev nBuf : Space → Nat
  | .hbm => 896
  | .vmem => 0
  | .smem => 0
  | _ => 0

abbrev hbmTy0_0 (i : Nat) : BufTy := match i % 128 with
  | 0 => ⟨S16384x10, .f32⟩
  | 1 => ⟨S16, .f32⟩
  | 2 => ⟨S16x16, .f32⟩
  | 3 => ⟨S16, .f32⟩
  | 4 => ⟨S16x16, .f32⟩
  | 5 => ⟨S16384x10, .i32⟩
  | 6 => ⟨S_, .f32⟩
  | 7 => ⟨S16384, .f32⟩
  | 8 => ⟨S16384x1, .f32⟩
  | 9 => ⟨S16384x10, .f32⟩
  | 10 => ⟨S16384x10, .i1⟩
  | 11 => ⟨S_, .i32⟩
  | 12 => ⟨S_, .i32⟩
  | 13 => ⟨S16384x10, .i32⟩
  | 14 => ⟨S16384x10, .i32⟩
  | 15 => ⟨S_, .i32⟩
  | 16 => ⟨S16384, .i32⟩
  | 17 => ⟨S2, .i32⟩
  | 18 => ⟨S_, .i32⟩
  | 19 => ⟨S2, .i32⟩
  | 20 => ⟨S_, .i32⟩
  | 21 => ⟨S_, .i32⟩
  | 22 => ⟨S_, .i32⟩
  | 23 => ⟨S_, .i32⟩
  | 24 => ⟨S_, .i32⟩
  | 25 => ⟨S_, .i32⟩
  | 26 => ⟨S2, .i32⟩
  | 27 => ⟨S2, .i32⟩
  | 28 => ⟨S_, .i32⟩
  | 29 => ⟨S2, .i32⟩
  | 30 => ⟨S2, .i32⟩
  | 31 => ⟨S2, .i32⟩
  | 32 => ⟨S_, .i32⟩
  | 33 => ⟨S2, .i32⟩
  | 34 => ⟨S2, .i32⟩
  | 35 => ⟨S_, .i32⟩
  | 36 => ⟨S2, .i32⟩
  | 37 => ⟨S2, .i32⟩
  | 38 => ⟨S2, .i32⟩
  | 39 => ⟨S2, .i32⟩
  | 40 => ⟨S2, .i32⟩
  | 41 => ⟨S_, .i32⟩
  | 42 => ⟨S2, .i32⟩
  | 43 => ⟨S2, .i32⟩
  | 44 => ⟨S_, .i32⟩
  | 45 => ⟨S2, .i32⟩
  | 46 => ⟨S2, .i32⟩
  | 47 => ⟨S2, .i32⟩
  | 48 => ⟨S2, .i32⟩
  | 49 => ⟨S2, .i32⟩
  | 50 => ⟨S_, .i32⟩
  | 51 => ⟨S2, .i32⟩
  | 52 => ⟨S2, .i32⟩
  | 53 => ⟨S_, .i32⟩
  | 54 => ⟨S2, .i32⟩
  | 55 => ⟨S2, .i32⟩
  | 56 => ⟨S2, .i32⟩
  | 57 => ⟨S2, .i32⟩
  | 58 => ⟨S2, .i32⟩
  | 59 => ⟨S_, .i32⟩
  | 60 => ⟨S2, .i32⟩
  | 61 => ⟨S2, .i32⟩
  | 62 => ⟨S_, .i32⟩
  | 63 => ⟨S2, .i32⟩
  | 64 => ⟨S2, .i32⟩
  | 65 => ⟨S2, .i32⟩
  | 66 => ⟨S2, .i32⟩
  | 67 => ⟨S_, .i32⟩
  | 68 => ⟨S2, .i32⟩
  | 69 => ⟨S2, .i32⟩
  | 70 => ⟨S2, .i32⟩
  | 71 => ⟨S2, .i32⟩
  | 72 => ⟨S_, .i32⟩
  | 73 => ⟨S2, .i32⟩
  | 74 => ⟨S2, .i32⟩
  | 75 => ⟨S2, .i32⟩
  | 76 => ⟨S_, .i32⟩
  | 77 => ⟨S2, .i32⟩
  | 78 => ⟨S2, .i32⟩
  | 79 => ⟨S_, .i32⟩
  | 80 => ⟨S2, .i32⟩
  | 81 => ⟨S2, .i32⟩
  | 82 => ⟨S2, .i32⟩
  | 83 => ⟨S2, .i32⟩
  | 84 => ⟨S2, .i32⟩
  | 85 => ⟨S_, .i32⟩
  | 86 => ⟨S2, .i32⟩
  | 87 => ⟨S2, .i32⟩
  | 88 => ⟨S_, .i32⟩
  | 89 => ⟨S2, .i32⟩
  | 90 => ⟨S2, .i32⟩
  | 91 => ⟨S2, .i32⟩
  | 92 => ⟨S2, .i32⟩
  | 93 => ⟨S2, .i32⟩
  | 94 => ⟨S_, .i32⟩
  | 95 => ⟨S2, .i32⟩
  | 96 => ⟨S2, .i32⟩
  | 97 => ⟨S_, .i32⟩
  | 98 => ⟨S2, .i32⟩
  | 99 => ⟨S2, .i32⟩
  | 100 => ⟨S2, .i32⟩
  | 101 => ⟨S2, .i32⟩
  | 102 => ⟨S2, .i32⟩
  | 103 => ⟨S_, .i32⟩
  | 104 => ⟨S2, .i32⟩
  | 105 => ⟨S2, .i32⟩
  | 106 => ⟨S_, .i32⟩
  | 107 => ⟨S2, .i32⟩
  | 108 => ⟨S2, .i32⟩
  | 109 => ⟨S2, .i32⟩
  | 110 => ⟨S2, .i32⟩
  | 111 => ⟨S2, .i32⟩
  | 112 => ⟨S2, .i32⟩
  | 113 => ⟨S_, .i32⟩
  | 114 => ⟨S2, .i32⟩
  | 115 => ⟨S2, .i32⟩
  | 116 => ⟨S_, .i32⟩
  | 117 => ⟨S2, .i32⟩
  | 118 => ⟨S2, .i32⟩
  | 119 => ⟨S2, .i32⟩
  | 120 => ⟨S_, .i32⟩
  | 121 => ⟨S2, .i32⟩
  | 122 => ⟨S2, .i32⟩
  | 123 => ⟨S_, .i32⟩
  | 124 => ⟨S2, .i32⟩
  | 125 => ⟨S2, .i32⟩
  | 126 => ⟨S2, .i32⟩
  | 127 => ⟨S2, .i32⟩
  | _ => ⟨S16384x10, .f32⟩

abbrev hbmTy0_1 (i : Nat) : BufTy := match i % 128 with
  | 0 => ⟨S2, .i32⟩
  | 1 => ⟨S_, .i32⟩
  | 2 => ⟨S2, .i32⟩
  | 3 => ⟨S2, .i32⟩
  | 4 => ⟨S_, .i32⟩
  | 5 => ⟨S2, .i32⟩
  | 6 => ⟨S2, .i32⟩
  | 7 => ⟨S2, .i32⟩
  | 8 => ⟨S2, .i32⟩
  | 9 => ⟨S2, .i32⟩
  | 10 => ⟨S_, .i32⟩
  | 11 => ⟨S2, .i32⟩
  | 12 => ⟨S2, .i32⟩
  | 13 => ⟨S_, .i32⟩
  | 14 => ⟨S2, .i32⟩
  | 15 => ⟨S2, .i32⟩
  | 16 => ⟨S2, .i32⟩
  | 17 => ⟨S2, .i32⟩
  | 18 => ⟨S2, .i32⟩
  | 19 => ⟨S_, .i32⟩
  | 20 => ⟨S2, .i32⟩
  | 21 => ⟨S2, .i32⟩
  | 22 => ⟨S_, .i32⟩
  | 23 => ⟨S2, .i32⟩
  | 24 => ⟨S2, .i32⟩
  | 25 => ⟨S2, .i32⟩
  | 26 => ⟨S2, .i32⟩
  | 27 => ⟨S_, .i32⟩
  | 28 => ⟨S2, .i32⟩
  | 29 => ⟨S2, .i32⟩
  | 30 => ⟨S_, .i32⟩
  | 31 => ⟨S2, .i32⟩
  | 32 => ⟨S2, .i32⟩
  | 33 => ⟨S_, .i32⟩
  | 34 => ⟨S2, .i32⟩
  | 35 => ⟨S2, .i32⟩
  | 36 => ⟨S2, .i32⟩
  | 37 => ⟨S_, .i32⟩
  | 38 => ⟨S2, .i32⟩
  | 39 => ⟨S2, .i32⟩
  | 40 => ⟨S_, .i32⟩
  | 41 => ⟨S2, .i32⟩
  | 42 => ⟨S2, .i32⟩
  | 43 => ⟨S2, .i32⟩
  | 44 => ⟨S2, .i32⟩
  | 45 => ⟨S2, .i32⟩
  | 46 => ⟨S_, .i32⟩
  | 47 => ⟨S2, .i32⟩
  | 48 => ⟨S2, .i32⟩
  | 49 => ⟨S_, .i32⟩
  | 50 => ⟨S2, .i32⟩
  | 51 => ⟨S2, .i32⟩
  | 52 => ⟨S2, .i32⟩
  | 53 => ⟨S2, .i32⟩
  | 54 => ⟨S2, .i32⟩
  | 55 => ⟨S_, .i32⟩
  | 56 => ⟨S2, .i32⟩
  | 57 => ⟨S2, .i32⟩
  | 58 => ⟨S_, .i32⟩
  | 59 => ⟨S2, .i32⟩
  | 60 => ⟨S2, .i32⟩
  | 61 => ⟨S2, .i32⟩
  | 62 => ⟨S2, .i32⟩
  | 63 => ⟨S2, .i32⟩
  | 64 => ⟨S_, .i32⟩
  | 65 => ⟨S2, .i32⟩
  | 66 => ⟨S2, .i32⟩
  | 67 => ⟨S_, .i32⟩
  | 68 => ⟨S2, .i32⟩
  | 69 => ⟨S2, .i32⟩
  | 70 => ⟨S2, .i32⟩
  | 71 => ⟨S2, .i32⟩
  | 72 => ⟨S_, .i32⟩
  | 73 => ⟨S2, .i32⟩
  | 74 => ⟨S2, .i32⟩
  | 75 => ⟨S2, .i32⟩
  | 76 => ⟨S2, .i32⟩
  | 77 => ⟨S_, .i32⟩
  | 78 => ⟨S2, .i32⟩
  | 79 => ⟨S2, .i32⟩
  | 80 => ⟨S2, .i32⟩
  | 81 => ⟨S_, .i32⟩
  | 82 => ⟨S2, .i32⟩
  | 83 => ⟨S2, .i32⟩
  | 84 => ⟨S_, .i32⟩
  | 85 => ⟨S2, .i32⟩
  | 86 => ⟨S2, .i32⟩
  | 87 => ⟨S2, .i32⟩
  | 88 => ⟨S2, .i32⟩
  | 89 => ⟨S2, .i32⟩
  | 90 => ⟨S_, .i32⟩
  | 91 => ⟨S2, .i32⟩
  | 92 => ⟨S2, .i32⟩
  | 93 => ⟨S_, .i32⟩
  | 94 => ⟨S2, .i32⟩
  | 95 => ⟨S2, .i32⟩
  | 96 => ⟨S2, .i32⟩
  | 97 => ⟨S2, .i32⟩
  | 98 => ⟨S2, .i32⟩
  | 99 => ⟨S_, .i32⟩
  | 100 => ⟨S2, .i32⟩
  | 101 => ⟨S2, .i32⟩
  | 102 => ⟨S_, .i32⟩
  | 103 => ⟨S2, .i32⟩
  | 104 => ⟨S2, .i32⟩
  | 105 => ⟨S2, .i32⟩
  | 106 => ⟨S2, .i32⟩
  | 107 => ⟨S2, .i32⟩
  | 108 => ⟨S_, .i32⟩
  | 109 => ⟨S2, .i32⟩
  | 110 => ⟨S2, .i32⟩
  | 111 => ⟨S_, .i32⟩
  | 112 => ⟨S2, .i32⟩
  | 113 => ⟨S2, .i32⟩
  | 114 => ⟨S2, .i32⟩
  | 115 => ⟨S2, .i32⟩
  | 116 => ⟨S2, .i32⟩
  | 117 => ⟨S2, .i32⟩
  | 118 => ⟨S_, .i32⟩
  | 119 => ⟨S2, .i32⟩
  | 120 => ⟨S2, .i32⟩
  | 121 => ⟨S_, .i32⟩
  | 122 => ⟨S2, .i32⟩
  | 123 => ⟨S2, .i32⟩
  | 124 => ⟨S2x1, .i32⟩
  | 125 => ⟨S2x1, .i32⟩
  | 126 => ⟨S2x2, .i32⟩
  | 127 => ⟨S1x16, .f32⟩
  | _ => ⟨S16384x10, .f32⟩

abbrev hbmTy0_2 (i : Nat) : BufTy := match i % 128 with
  | 0 => ⟨S1x16, .f32⟩
  | 1 => ⟨S2x16, .f32⟩
  | 2 => ⟨S1x16x16, .f32⟩
  | 3 => ⟨S1x16x16, .f32⟩
  | 4 => ⟨S2x16x16, .f32⟩
  | 5 => ⟨S2x16x1, .f32⟩
  | 6 => ⟨S2x16, .f32⟩
  | 7 => ⟨S2x1x1, .f32⟩
  | 8 => ⟨S2, .f32⟩
  | 9 => ⟨S2, .f32⟩
  | 10 => ⟨S2x1, .f32⟩
  | 11 => ⟨S2x16, .f32⟩
  | 12 => ⟨S2x16, .f32⟩
  | 13 => ⟨S2x16x1, .f32⟩
  | 14 => ⟨S2x1x16, .f32⟩
  | 15 => ⟨S2x16x16, .f32⟩
  | 16 => ⟨S2x16x16, .f32⟩
  | 17 => ⟨S2x16x16, .f32⟩
  | 18 => ⟨S2x16x16, .f32⟩
  | 19 => ⟨S2x16x1, .f32⟩
  | 20 => ⟨S2x16, .f32⟩
  | 21 => ⟨S2x1x1, .f32⟩
  | 22 => ⟨S2, .f32⟩
  | 23 => ⟨S2, .f32⟩
  | 24 => ⟨S2x1, .f32⟩
  | 25 => ⟨S2x16, .f32⟩
  | 26 => ⟨S2x16, .f32⟩
  | 27 => ⟨S2x16x1, .f32⟩
  | 28 => ⟨S2x1x16, .f32⟩
  | 29 => ⟨S2x16x16, .f32⟩
  | 30 => ⟨S2x16x16, .f32⟩
  | 31 => ⟨S2x16x16, .f32⟩
  | 32 => ⟨S2x16x16, .f32⟩
  | 33 => ⟨S2x16x1, .f32⟩
  | 34 => ⟨S2x16, .f32⟩
  | 35 => ⟨S2x1x1, .f32⟩
  | 36 => ⟨S2, .f32⟩
  | 37 => ⟨S2, .f32⟩
  | 38 => ⟨S2x1, .f32⟩
  | 39 => ⟨S2x16, .f32⟩
  | 40 => ⟨S2x16, .f32⟩
  | 41 => ⟨S2x16x1, .f32⟩
  | 42 => ⟨S2x1x16, .f32⟩
  | 43 => ⟨S2x16x16, .f32⟩
  | 44 => ⟨S2x16x16, .f32⟩
  | 45 => ⟨S2x16x16, .f32⟩
  | 46 => ⟨S2x16x16, .f32⟩
  | 47 => ⟨S2x16x1, .f32⟩
  | 48 => ⟨S2x16, .f32⟩
  | 49 => ⟨S2x1x1, .f32⟩
  | 50 => ⟨S2, .f32⟩
  | 51 => ⟨S2, .f32⟩
  | 52 => ⟨S2x1, .f32⟩
  | 53 => ⟨S2x16, .f32⟩
  | 54 => ⟨S2x16, .f32⟩
  | 55 => ⟨S2x16x1, .f32⟩
  | 56 => ⟨S2x1x16, .f32⟩
  | 57 => ⟨S2x16x16, .f32⟩
  | 58 => ⟨S2x16x16, .f32⟩
  | 59 => ⟨S2x16x16, .f32⟩
  | 60 => ⟨S2x16x16, .f32⟩
  | 61 => ⟨S2x16x1, .f32⟩
  | 62 => ⟨S2x16, .f32⟩
  | 63 => ⟨S2x1x1, .f32⟩
  | 64 => ⟨S2, .f32⟩
  | 65 => ⟨S2, .f32⟩
  | 66 => ⟨S2x1, .f32⟩
  | 67 => ⟨S2x16, .f32⟩
  | 68 => ⟨S2x16, .f32⟩
  | 69 => ⟨S2x16x1, .f32⟩
  | 70 => ⟨S2x1x16, .f32⟩
  | 71 => ⟨S2x16x16, .f32⟩
  | 72 => ⟨S2x16x16, .f32⟩
  | 73 => ⟨S2x16x16, .f32⟩
  | 74 => ⟨S2x16x16, .f32⟩
  | 75 => ⟨S2x16x1, .f32⟩
  | 76 => ⟨S2x16, .f32⟩
  | 77 => ⟨S2x1x1, .f32⟩
  | 78 => ⟨S2, .f32⟩
  | 79 => ⟨S2, .f32⟩
  | 80 => ⟨S2x1, .f32⟩
  | 81 => ⟨S2x16, .f32⟩
  | 82 => ⟨S2x16, .f32⟩
  | 83 => ⟨S2x16x1, .f32⟩
  | 84 => ⟨S2x1x16, .f32⟩
  | 85 => ⟨S2x16x16, .f32⟩
  | 86 => ⟨S2x16x16, .f32⟩
  | 87 => ⟨S2x16x16, .f32⟩
  | 88 => ⟨S2x16x16, .f32⟩
  | 89 => ⟨S2x16x1, .f32⟩
  | 90 => ⟨S2x16, .f32⟩
  | 91 => ⟨S2x1x1, .f32⟩
  | 92 => ⟨S2, .f32⟩
  | 93 => ⟨S2, .f32⟩
  | 94 => ⟨S2x1, .f32⟩
  | 95 => ⟨S2x16, .f32⟩
  | 96 => ⟨S2x16, .f32⟩
  | 97 => ⟨S2x16x1, .f32⟩
  | 98 => ⟨S2x1x16, .f32⟩
  | 99 => ⟨S2x16x16, .f32⟩
  | 100 => ⟨S2x16x16, .f32⟩
  | 101 => ⟨S2x16x16, .f32⟩
  | 102 => ⟨S2x16x16, .f32⟩
  | 103 => ⟨S2x16x1, .f32⟩
  | 104 => ⟨S2x16, .f32⟩
  | 105 => ⟨S2x1x1, .f32⟩
  | 106 => ⟨S2, .f32⟩
  | 107 => ⟨S2, .f32⟩
  | 108 => ⟨S2x1, .f32⟩
  | 109 => ⟨S2x16, .f32⟩
  | 110 => ⟨S2x16, .f32⟩
  | 111 => ⟨S2x16x1, .f32⟩
  | 112 => ⟨S2x1x16, .f32⟩
  | 113 => ⟨S2x16x16, .f32⟩
  | 114 => ⟨S2x16x16, .f32⟩
  | 115 => ⟨S2x16x16, .f32⟩
  | 116 => ⟨S2x16x16, .f32⟩
  | 117 => ⟨S2x16x1, .f32⟩
  | 118 => ⟨S2x16, .f32⟩
  | 119 => ⟨S2x1x1, .f32⟩
  | 120 => ⟨S2, .f32⟩
  | 121 => ⟨S2, .f32⟩
  | 122 => ⟨S2x1, .f32⟩
  | 123 => ⟨S2x16, .f32⟩
  | 124 => ⟨S2x16, .f32⟩
  | 125 => ⟨S2x16x1, .f32⟩
  | 126 => ⟨S2x1x16, .f32⟩
  | 127 => ⟨S2x16x16, .f32⟩
  | _ => ⟨S16384x10, .f32⟩

abbrev hbmTy0_3 (i : Nat) : BufTy := match i % 128 with
  | 0 => ⟨S2x16x16, .f32⟩
  | 1 => ⟨S2x16x16, .f32⟩
  | 2 => ⟨S2x16x16, .f32⟩
  | 3 => ⟨S2x16x1, .f32⟩
  | 4 => ⟨S2x16, .f32⟩
  | 5 => ⟨S2x1x1, .f32⟩
  | 6 => ⟨S2, .f32⟩
  | 7 => ⟨S2, .f32⟩
  | 8 => ⟨S2x1, .f32⟩
  | 9 => ⟨S2x16, .f32⟩
  | 10 => ⟨S2x16, .f32⟩
  | 11 => ⟨S2x16x1, .f32⟩
  | 12 => ⟨S2x1x16, .f32⟩
  | 13 => ⟨S2x16x16, .f32⟩
  | 14 => ⟨S2x16x16, .f32⟩
  | 15 => ⟨S2x16x16, .f32⟩
  | 16 => ⟨S2x16x16, .f32⟩
  | 17 => ⟨S2x16x1, .f32⟩
  | 18 => ⟨S2x16, .f32⟩
  | 19 => ⟨S2x1x1, .f32⟩
  | 20 => ⟨S2, .f32⟩
  | 21 => ⟨S2, .f32⟩
  | 22 => ⟨S2x1, .f32⟩
  | 23 => ⟨S2x16, .f32⟩
  | 24 => ⟨S2x16, .f32⟩
  | 25 => ⟨S2x16x1, .f32⟩
  | 26 => ⟨S2x1x16, .f32⟩
  | 27 => ⟨S2x16x16, .f32⟩
  | 28 => ⟨S2x16x16, .f32⟩
  | 29 => ⟨S2x16x16, .f32⟩
  | 30 => ⟨S2x16x16, .f32⟩
  | 31 => ⟨S2x16x1, .f32⟩
  | 32 => ⟨S2x16, .f32⟩
  | 33 => ⟨S2x1x1, .f32⟩
  | 34 => ⟨S2, .f32⟩
  | 35 => ⟨S2, .f32⟩
  | 36 => ⟨S2x1, .f32⟩
  | 37 => ⟨S2x16, .f32⟩
  | 38 => ⟨S2x16, .f32⟩
  | 39 => ⟨S2x16x1, .f32⟩
  | 40 => ⟨S2x1x16, .f32⟩
  | 41 => ⟨S2x16x16, .f32⟩
  | 42 => ⟨S2x16x16, .f32⟩
  | 43 => ⟨S2x16x16, .f32⟩
  | 44 => ⟨S2x16x16, .f32⟩
  | 45 => ⟨S2x16x1, .f32⟩
  | 46 => ⟨S2x16, .f32⟩
  | 47 => ⟨S2x1x1, .f32⟩
  | 48 => ⟨S2, .f32⟩
  | 49 => ⟨S2, .f32⟩
  | 50 => ⟨S2x1, .f32⟩
  | 51 => ⟨S2x16, .f32⟩
  | 52 => ⟨S2x16, .f32⟩
  | 53 => ⟨S2x16x1, .f32⟩
  | 54 => ⟨S2x1x16, .f32⟩
  | 55 => ⟨S2x16x16, .f32⟩
  | 56 => ⟨S2x16x16, .f32⟩
  | 57 => ⟨S2x16x16, .f32⟩
  | 58 => ⟨S2x16x16, .f32⟩
  | 59 => ⟨S2x16x1, .f32⟩
  | 60 => ⟨S2x16, .f32⟩
  | 61 => ⟨S2x1x1, .f32⟩
  | 62 => ⟨S2, .f32⟩
  | 63 => ⟨S2, .f32⟩
  | 64 => ⟨S2x1, .f32⟩
  | 65 => ⟨S2x16, .f32⟩
  | 66 => ⟨S2x16, .f32⟩
  | 67 => ⟨S2x16x1, .f32⟩
  | 68 => ⟨S2x1x16, .f32⟩
  | 69 => ⟨S2x16x16, .f32⟩
  | 70 => ⟨S2x16x16, .f32⟩
  | 71 => ⟨S2x16x16, .f32⟩
  | 72 => ⟨S2x16x16, .f32⟩
  | 73 => ⟨S2x16x1, .f32⟩
  | 74 => ⟨S2x16, .f32⟩
  | 75 => ⟨S2x1x1, .f32⟩
  | 76 => ⟨S2, .f32⟩
  | 77 => ⟨S2, .f32⟩
  | 78 => ⟨S2x1, .f32⟩
  | 79 => ⟨S2x16, .f32⟩
  | 80 => ⟨S2x16, .f32⟩
  | 81 => ⟨S2x16x1, .f32⟩
  | 82 => ⟨S2x1x16, .f32⟩
  | 83 => ⟨S2x16x16, .f32⟩
  | 84 => ⟨S2x16x16, .f32⟩
  | 85 => ⟨S2x16x16, .f32⟩
  | 86 => ⟨S2x16x16, .f32⟩
  | 87 => ⟨S2x16x1, .f32⟩
  | 88 => ⟨S2x16, .f32⟩
  | 89 => ⟨S2x1x1, .f32⟩
  | 90 => ⟨S2, .f32⟩
  | 91 => ⟨S2, .f32⟩
  | 92 => ⟨S2x1, .f32⟩
  | 93 => ⟨S2x16, .f32⟩
  | 94 => ⟨S2x16, .f32⟩
  | 95 => ⟨S2x16x1, .f32⟩
  | 96 => ⟨S2x1x16, .f32⟩
  | 97 => ⟨S2x16x16, .f32⟩
  | 98 => ⟨S2x16x16, .f32⟩
  | 99 => ⟨S2x16x16, .f32⟩
  | 100 => ⟨S2x16x16, .f32⟩
  | 101 => ⟨S2x16x1, .f32⟩
  | 102 => ⟨S2x16x1, .f32⟩
  | 103 => ⟨S2x16x1, .f32⟩
  | 104 => ⟨S2x16x1, .f32⟩
  | 105 => ⟨S2x16x1, .f32⟩
  | 106 => ⟨S2x16x1, .f32⟩
  | 107 => ⟨S2x16x1, .f32⟩
  | 108 => ⟨S2x16x1, .f32⟩
  | 109 => ⟨S2x16x1, .f32⟩
  | 110 => ⟨S2x16x1, .f32⟩
  | 111 => ⟨S2x16x1, .f32⟩
  | 112 => ⟨S2x16x1, .f32⟩
  | 113 => ⟨S2x16x1, .f32⟩
  | 114 => ⟨S2x16x1, .f32⟩
  | 115 => ⟨S2x16x1, .f32⟩
  | 116 => ⟨S2x16x1, .f32⟩
  | 117 => ⟨S2x16x16, .f32⟩
  | 118 => ⟨S262144, .i32⟩
  | 119 => ⟨S16384x16, .i32⟩
  | 120 => ⟨S_, .i32⟩
  | 121 => ⟨S16384x16, .i32⟩
  | 122 => ⟨S2x1, .i32⟩
  | 123 => ⟨S2, .i32⟩
  | 124 => ⟨S2x1, .i32⟩
  | 125 => ⟨S2, .i32⟩
  | 126 => ⟨S2x1, .i32⟩
  | 127 => ⟨S2, .i32⟩
  | _ => ⟨S16384x10, .f32⟩

abbrev hbmTy0_4 (i : Nat) : BufTy := match i % 128 with
  | 0 => ⟨S2x1, .i32⟩
  | 1 => ⟨S2, .i32⟩
  | 2 => ⟨S2, .i32⟩
  | 3 => ⟨S_, .i32⟩
  | 4 => ⟨S2, .i32⟩
  | 5 => ⟨S2, .i32⟩
  | 6 => ⟨S1x16384x16, .i32⟩
  | 7 => ⟨S2x1x1, .i32⟩
  | 8 => ⟨S2x16384x16, .i32⟩
  | 9 => ⟨S2x16384x16, .i32⟩
  | 10 => ⟨S2x16384x16, .i32⟩
  | 11 => ⟨S1x16384x16, .i32⟩
  | 12 => ⟨S2x1x1, .i32⟩
  | 13 => ⟨S2x16384x16, .i32⟩
  | 14 => ⟨S2x16384x16, .i32⟩
  | 15 => ⟨S2x16384x16, .i32⟩
  | 16 => ⟨S2x16384x16, .i32⟩
  | 17 => ⟨S_, .i32⟩
  | 18 => ⟨S2x16384x16, .i32⟩
  | 19 => ⟨S2x16384x16, .i32⟩
  | 20 => ⟨S_, .i32⟩
  | 21 => ⟨S2x16384x16, .i32⟩
  | 22 => ⟨S2x16384x16, .i32⟩
  | 23 => ⟨S2x16384x16, .i32⟩
  | 24 => ⟨S2x16384x16, .i32⟩
  | 25 => ⟨S2x16384x16, .i32⟩
  | 26 => ⟨S_, .i32⟩
  | 27 => ⟨S2x16384x16, .i32⟩
  | 28 => ⟨S2x16384x16, .i32⟩
  | 29 => ⟨S_, .i32⟩
  | 30 => ⟨S2x16384x16, .i32⟩
  | 31 => ⟨S2x16384x16, .i32⟩
  | 32 => ⟨S2x16384x16, .i32⟩
  | 33 => ⟨S2x16384x16, .i32⟩
  | 34 => ⟨S2x16384x16, .i32⟩
  | 35 => ⟨S_, .i32⟩
  | 36 => ⟨S2x16384x16, .i32⟩
  | 37 => ⟨S2x16384x16, .i32⟩
  | 38 => ⟨S_, .i32⟩
  | 39 => ⟨S2x16384x16, .i32⟩
  | 40 => ⟨S2x16384x16, .i32⟩
  | 41 => ⟨S2x16384x16, .i32⟩
  | 42 => ⟨S2x16384x16, .i32⟩
  | 43 => ⟨S2x16384x16, .i32⟩
  | 44 => ⟨S_, .i32⟩
  | 45 => ⟨S2x16384x16, .i32⟩
  | 46 => ⟨S2x16384x16, .i32⟩
  | 47 => ⟨S_, .i32⟩
  | 48 => ⟨S2x16384x16, .i32⟩
  | 49 => ⟨S2x16384x16, .i32⟩
  | 50 => ⟨S2x16384x16, .i32⟩
  | 51 => ⟨S2x16384x16, .i32⟩
  | 52 => ⟨S2x1x1, .i32⟩
  | 53 => ⟨S2x16384x16, .i32⟩
  | 54 => ⟨S2x16384x16, .i32⟩
  | 55 => ⟨S2x1x1, .i32⟩
  | 56 => ⟨S2x16384x16, .i32⟩
  | 57 => ⟨S2x16384x16, .i32⟩
  | 58 => ⟨S_, .i32⟩
  | 59 => ⟨S2x16384x16, .i32⟩
  | 60 => ⟨S2x16384x16, .i32⟩
  | 61 => ⟨S2x16384x16, .i32⟩
  | 62 => ⟨S_, .i32⟩
  | 63 => ⟨S2x16384x16, .i32⟩
  | 64 => ⟨S2x16384x16, .i32⟩
  | 65 => ⟨S_, .i32⟩
  | 66 => ⟨S2x16384x16, .i32⟩
  | 67 => ⟨S2x16384x16, .i32⟩
  | 68 => ⟨S2x16384x16, .i32⟩
  | 69 => ⟨S2x16384x16, .i32⟩
  | 70 => ⟨S2x16384x16, .i32⟩
  | 71 => ⟨S_, .i32⟩
  | 72 => ⟨S2x16384x16, .i32⟩
  | 73 => ⟨S2x16384x16, .i32⟩
  | 74 => ⟨S_, .i32⟩
  | 75 => ⟨S2x16384x16, .i32⟩
  | 76 => ⟨S2x16384x16, .i32⟩
  | 77 => ⟨S2x16384x16, .i32⟩
  | 78 => ⟨S2x16384x16, .i32⟩
  | 79 => ⟨S2x16384x16, .i32⟩
  | 80 => ⟨S_, .i32⟩
  | 81 => ⟨S2x16384x16, .i32⟩
  | 82 => ⟨S2x16384x16, .i32⟩
  | 83 => ⟨S_, .i32⟩
  | 84 => ⟨S2x16384x16, .i32⟩
  | 85 => ⟨S2x16384x16, .i32⟩
  | 86 => ⟨S2x16384x16, .i32⟩
  | 87 => ⟨S2x16384x16, .i32⟩
  | 88 => ⟨S2x16384x16, .i32⟩
  | 89 => ⟨S_, .i32⟩
  | 90 => ⟨S2x16384x16, .i32⟩
  | 91 => ⟨S2x16384x16, .i32⟩
  | 92 => ⟨S_, .i32⟩
  | 93 => ⟨S2x16384x16, .i32⟩
  | 94 => ⟨S2x16384x16, .i32⟩
  | 95 => ⟨S2x16384x16, .i32⟩
  | 96 => ⟨S2x16384x16, .i32⟩
  | 97 => ⟨S2x1x1, .i32⟩
  | 98 => ⟨S2x16384x16, .i32⟩
  | 99 => ⟨S2x16384x16, .i32⟩
  | 100 => ⟨S2x1x1, .i32⟩
  | 101 => ⟨S2x16384x16, .i32⟩
  | 102 => ⟨S2x16384x16, .i32⟩
  | 103 => ⟨S_, .i32⟩
  | 104 => ⟨S2x16384x16, .i32⟩
  | 105 => ⟨S2x16384x16, .i32⟩
  | 106 => ⟨S2x16384x16, .i32⟩
  | 107 => ⟨S_, .i32⟩
  | 108 => ⟨S2x16384x16, .i32⟩
  | 109 => ⟨S2x16384x16, .i32⟩
  | 110 => ⟨S_, .i32⟩
  | 111 => ⟨S2x16384x16, .i32⟩
  | 112 => ⟨S2x16384x16, .i32⟩
  | 113 => ⟨S2x16384x16, .i32⟩
  | 114 => ⟨S2x16384x16, .i32⟩
  | 115 => ⟨S2x16384x16, .i32⟩
  | 116 => ⟨S_, .i32⟩
  | 117 => ⟨S2x16384x16, .i32⟩
  | 118 => ⟨S2x16384x16, .i32⟩
  | 119 => ⟨S_, .i32⟩
  | 120 => ⟨S2x16384x16, .i32⟩
  | 121 => ⟨S2x16384x16, .i32⟩
  | 122 => ⟨S2x16384x16, .i32⟩
  | 123 => ⟨S2x16384x16, .i32⟩
  | 124 => ⟨S2x16384x16, .i32⟩
  | 125 => ⟨S_, .i32⟩
  | 126 => ⟨S2x16384x16, .i32⟩
  | 127 => ⟨S2x16384x16, .i32⟩
  | _ => ⟨S16384x10, .f32⟩

abbrev hbmTy0_5 (i : Nat) : BufTy := match i % 128 with
  | 0 => ⟨S_, .i32⟩
  | 1 => ⟨S2x16384x16, .i32⟩
  | 2 => ⟨S2x16384x16, .i32⟩
  | 3 => ⟨S2x16384x16, .i32⟩
  | 4 => ⟨S2x16384x16, .i32⟩
  | 5 => ⟨S2x16384x16, .i32⟩
  | 6 => ⟨S_, .i32⟩
  | 7 => ⟨S2x16384x16, .i32⟩
  | 8 => ⟨S2x16384x16, .i32⟩
  | 9 => ⟨S_, .i32⟩
  | 10 => ⟨S2x16384x16, .i32⟩
  | 11 => ⟨S2x16384x16, .i32⟩
  | 12 => ⟨S2x16384x16, .i32⟩
  | 13 => ⟨S2x16384x16, .i32⟩
  | 14 => ⟨S2x1x1, .i32⟩
  | 15 => ⟨S2x16384x16, .i32⟩
  | 16 => ⟨S2x16384x16, .i32⟩
  | 17 => ⟨S2x1x1, .i32⟩
  | 18 => ⟨S2x16384x16, .i32⟩
  | 19 => ⟨S2x16384x16, .i32⟩
  | 20 => ⟨S_, .i32⟩
  | 21 => ⟨S2x16384x16, .i32⟩
  | 22 => ⟨S2x16384x16, .i32⟩
  | 23 => ⟨S2x16384x16, .i32⟩
  | 24 => ⟨S_, .i32⟩
  | 25 => ⟨S2x16384x16, .i32⟩
  | 26 => ⟨S2x16384x16, .i32⟩
  | 27 => ⟨S_, .i32⟩
  | 28 => ⟨S2x16384x16, .i32⟩
  | 29 => ⟨S2x16384x16, .i32⟩
  | 30 => ⟨S2x16384x16, .i32⟩
  | 31 => ⟨S2x16384x16, .i32⟩
  | 32 => ⟨S2x16384x16, .i32⟩
  | 33 => ⟨S_, .i32⟩
  | 34 => ⟨S2x16384x16, .i32⟩
  | 35 => ⟨S2x16384x16, .i32⟩
  | 36 => ⟨S_, .i32⟩
  | 37 => ⟨S2x16384x16, .i32⟩
  | 38 => ⟨S2x16384x16, .i32⟩
  | 39 => ⟨S2x16384x16, .i32⟩
  | 40 => ⟨S2x16384x16, .i32⟩
  | 41 => ⟨S2x16384x16, .i32⟩
  | 42 => ⟨S_, .i32⟩
  | 43 => ⟨S2x16384x16, .i32⟩
  | 44 => ⟨S2x16384x16, .i32⟩
  | 45 => ⟨S_, .i32⟩
  | 46 => ⟨S2x16384x16, .i32⟩
  | 47 => ⟨S2x16384x16, .i32⟩
  | 48 => ⟨S2x16384x16, .i32⟩
  | 49 => ⟨S2x16384x16, .i32⟩
  | 50 => ⟨S2x16384x16, .i32⟩
  | 51 => ⟨S_, .i32⟩
  | 52 => ⟨S2x16384x16, .i32⟩
  | 53 => ⟨S2x16384x16, .i32⟩
  | 54 => ⟨S_, .i32⟩
  | 55 => ⟨S2x16384x16, .i32⟩
  | 56 => ⟨S2x16384x16, .i32⟩
  | 57 => ⟨S2x16384x16, .i32⟩
  | 58 => ⟨S2x16384x16, .i32⟩
  | 59 => ⟨S2x1x1, .i32⟩
  | 60 => ⟨S2x16384x16, .i32⟩
  | 61 => ⟨S2x16384x16, .i32⟩
  | 62 => ⟨S2x1x1, .i32⟩
  | 63 => ⟨S2x16384x16, .i32⟩
  | 64 => ⟨S2x16384x16, .i32⟩
  | 65 => ⟨S_, .i32⟩
  | 66 => ⟨S2x16384x16, .i32⟩
  | 67 => ⟨S2x16384x16, .i32⟩
  | 68 => ⟨S2x16384x16, .i32⟩
  | 69 => ⟨S_, .i32⟩
  | 70 => ⟨S2x16384x16, .i32⟩
  | 71 => ⟨S2x16384x16, .i32⟩
  | 72 => ⟨S_, .i32⟩
  | 73 => ⟨S2x16384x16, .i32⟩
  | 74 => ⟨S2x16384x16, .i32⟩
  | 75 => ⟨S2x16384x16, .i32⟩
  | 76 => ⟨S2x16384x16, .i32⟩
  | 77 => ⟨S2x16384x16, .i32⟩
  | 78 => ⟨S_, .i32⟩
  | 79 => ⟨S2x16384x16, .i32⟩
  | 80 => ⟨S2x16384x16, .i32⟩
  | 81 => ⟨S_, .i32⟩
  | 82 => ⟨S2x16384x16, .i32⟩
  | 83 => ⟨S2x16384x16, .i32⟩
  | 84 => ⟨S2x16384x16, .i32⟩
  | 85 => ⟨S2x16384x16, .i32⟩
  | 86 => ⟨S2x16384x16, .i32⟩
  | 87 => ⟨S_, .i32⟩
  | 88 => ⟨S2x16384x16, .i32⟩
  | 89 => ⟨S2x16384x16, .i32⟩
  | 90 => ⟨S_, .i32⟩
  | 91 => ⟨S2x16384x16, .i32⟩
  | 92 => ⟨S2x16384x16, .i32⟩
  | 93 => ⟨S2x16384x16, .i32⟩
  | 94 => ⟨S2x16384x16, .i32⟩
  | 95 => ⟨S2x16384x16, .i32⟩
  | 96 => ⟨S_, .i32⟩
  | 97 => ⟨S2x16384x16, .i32⟩
  | 98 => ⟨S2x16384x16, .i32⟩
  | 99 => ⟨S_, .i32⟩
  | 100 => ⟨S2x16384x16, .i32⟩
  | 101 => ⟨S2x16384x16, .i32⟩
  | 102 => ⟨S2x16384x16, .i32⟩
  | 103 => ⟨S2x16384x16, .i32⟩
  | 104 => ⟨S2x1x1, .i32⟩
  | 105 => ⟨S2x16384x16, .i32⟩
  | 106 => ⟨S2x16384x16, .i32⟩
  | 107 => ⟨S2x1x1, .i32⟩
  | 108 => ⟨S2x16384x16, .i32⟩
  | 109 => ⟨S2x16384x16, .i32⟩
  | 110 => ⟨S_, .i32⟩
  | 111 => ⟨S2x16384x16, .i32⟩
  | 112 => ⟨S2x16384x16, .i32⟩
  | 113 => ⟨S2x16384x16, .i32⟩
  | 114 => ⟨S_, .i32⟩
  | 115 => ⟨S2x16384x16, .i32⟩
  | 116 => ⟨S2x16384x16, .i32⟩
  | 117 => ⟨S_, .i32⟩
  | 118 => ⟨S2x16384x16, .i32⟩
  | 119 => ⟨S2x16384x16, .i32⟩
  | 120 => ⟨S2x16384x16, .f32⟩
  | 121 => ⟨S_, .f32⟩
  | 122 => ⟨S2x16384x16, .f32⟩
  | 123 => ⟨S2x16384x16, .f32⟩
  | 124 => ⟨S_, .f32⟩
  | 125 => ⟨S_, .f32⟩
  | 126 => ⟨S_, .f32⟩
  | 127 => ⟨S2x16384x16, .f32⟩
  | _ => ⟨S16384x10, .f32⟩

abbrev hbmTy0_6 (i : Nat) : BufTy := match i % 128 with
  | 0 => ⟨S2x16384x16, .f32⟩
  | 1 => ⟨S_, .f32⟩
  | 2 => ⟨S2x16384x16, .f32⟩
  | 3 => ⟨S2x16384x16, .f32⟩
  | 4 => ⟨S_, .f32⟩
  | 5 => ⟨S2x16384x16, .f32⟩
  | 6 => ⟨S2x16384x16, .f32⟩
  | 7 => ⟨S2x16384x16, .f32⟩
  | 8 => ⟨S2x16384x16, .f32⟩
  | 9 => ⟨S2x16384x16, .f32⟩
  | 10 => ⟨S2x16384x16, .f32⟩
  | 11 => ⟨S_, .f32⟩
  | 12 => ⟨S2x16384x16, .f32⟩
  | 13 => ⟨S2x16384x16, .i1⟩
  | 14 => ⟨S_, .f32⟩
  | 15 => ⟨S2x16384x16, .f32⟩
  | 16 => ⟨S2x16384x16, .f32⟩
  | 17 => ⟨S2x16384x16, .f32⟩
  | 18 => ⟨S_, .f32⟩
  | 19 => ⟨S2x16384x16, .f32⟩
  | 20 => ⟨S2x16384x16, .f32⟩
  | 21 => ⟨S2x16384x16, .f32⟩
  | 22 => ⟨S_, .f32⟩
  | 23 => ⟨S_, .f32⟩
  | 24 => ⟨S16384x16, .f32⟩
  | 25 => ⟨S16384x16, .f32⟩
  | 26 => ⟨S2x16384x16, .f32⟩
  | 27 => ⟨S2x16384x16, .f32⟩
  | 28 => ⟨S2x16384x16, .f32⟩
  | 29 => ⟨S_, .f32⟩
  | 30 => ⟨S_, .f32⟩
  | 31 => ⟨S16384x16, .f32⟩
  | 32 => ⟨S16384x16, .f32⟩
  | 33 => ⟨S2x16384x16, .f32⟩
  | 34 => ⟨S2x16384x16, .f32⟩
  | 35 => ⟨S2x16384x16, .f32⟩
  | 36 => ⟨S2x16384x16, .f32⟩
  | 37 => ⟨S2x16384x16, .f32⟩
  | 38 => ⟨S_, .f32⟩
  | 39 => ⟨S_, .f32⟩
  | 40 => ⟨S16384x16, .f32⟩
  | 41 => ⟨S16384x16, .f32⟩
  | 42 => ⟨S2x16384x16, .f32⟩
  | 43 => ⟨S2x16384x16, .f32⟩
  | 44 => ⟨S2x16384x16, .f32⟩
  | 45 => ⟨S2x16384x16, .f32⟩
  | 46 => ⟨S2x16384x16, .f32⟩
  | 47 => ⟨S_, .f32⟩
  | 48 => ⟨S_, .f32⟩
  | 49 => ⟨S16384x16, .f32⟩
  | 50 => ⟨S16384x16, .f32⟩
  | 51 => ⟨S2x16384x16, .f32⟩
  | 52 => ⟨S2x16384x16, .f32⟩
  | 53 => ⟨S2x16384x16, .f32⟩
  | 54 => ⟨S2x16384x16, .f32⟩
  | 55 => ⟨S2x16384x16, .f32⟩
  | 56 => ⟨S_, .f32⟩
  | 57 => ⟨S_, .f32⟩
  | 58 => ⟨S16384x16, .f32⟩
  | 59 => ⟨S16384x16, .f32⟩
  | 60 => ⟨S2x16384x16, .f32⟩
  | 61 => ⟨S2x16384x16, .f32⟩
  | 62 => ⟨S2x16384x16, .f32⟩
  | 63 => ⟨S2x16384x16, .f32⟩
  | 64 => ⟨S2x16384x16, .f32⟩
  | 65 => ⟨S_, .f32⟩
  | 66 => ⟨S_, .f32⟩
  | 67 => ⟨S16384x16, .f32⟩
  | 68 => ⟨S16384x16, .f32⟩
  | 69 => ⟨S2x16384x16, .f32⟩
  | 70 => ⟨S2x16384x16, .f32⟩
  | 71 => ⟨S2x16384x16, .f32⟩
  | 72 => ⟨S2x16384x16, .f32⟩
  | 73 => ⟨S2x16384x16, .f32⟩
  | 74 => ⟨S_, .f32⟩
  | 75 => ⟨S_, .f32⟩
  | 76 => ⟨S16384x16, .f32⟩
  | 77 => ⟨S16384x16, .f32⟩
  | 78 => ⟨S2x16384x16, .f32⟩
  | 79 => ⟨S2x16384x16, .f32⟩
  | 80 => ⟨S2x16384x16, .f32⟩
  | 81 => ⟨S2x16384x16, .f32⟩
  | 82 => ⟨S2x16384x16, .f32⟩
  | 83 => ⟨S_, .f32⟩
  | 84 => ⟨S_, .f32⟩
  | 85 => ⟨S16384x16, .f32⟩
  | 86 => ⟨S16384x16, .f32⟩
  | 87 => ⟨S2x16384x16, .f32⟩
  | 88 => ⟨S2x16384x16, .f32⟩
  | 89 => ⟨S2x16384x16, .f32⟩
  | 90 => ⟨S2x16384x16, .f32⟩
  | 91 => ⟨S2x16384x16, .f32⟩
  | 92 => ⟨S_, .f32⟩
  | 93 => ⟨S_, .f32⟩
  | 94 => ⟨S16384x16, .f32⟩
  | 95 => ⟨S16384x16, .f32⟩
  | 96 => ⟨S2x16384x16, .f32⟩
  | 97 => ⟨S2x16384x16, .f32⟩
  | 98 => ⟨S2x16384x16, .f32⟩
  | 99 => ⟨S2x16384x16, .f32⟩
  | 100 => ⟨S2x16384x16, .f32⟩
  | 101 => ⟨S2x16384x16, .f32⟩
  | 102 => ⟨S_, .f32⟩
  | 103 => ⟨S2x16384x16, .f32⟩
  | 104 => ⟨S2x16384x16, .i1⟩
  | 105 => ⟨S_, .f32⟩
  | 106 => ⟨S2x16384x16, .f32⟩
  | 107 => ⟨S2x16384x16, .f32⟩
  | 108 => ⟨S2x16384x16, .f32⟩
  | 109 => ⟨S2x16384x16, .f32⟩
  | 110 => ⟨S_, .f32⟩
  | 111 => ⟨S2x16384x16, .f32⟩
  | 112 => ⟨S2x16384x16, .f32⟩
  | 113 => ⟨S2x1x16, .f32⟩
  | 114 => ⟨S2x16x16, .f32⟩
  | 115 => ⟨S2x16384x16, .f32⟩
  | 116 => ⟨S2x16384x16, .f32⟩
  | 117 => ⟨S2x16384x16, .f32⟩
  | 118 => ⟨S_, .i32⟩
  | 119 => ⟨S16384, .i32⟩
  | 120 => ⟨S16384, .i1⟩
  | 121 => ⟨S16384x1, .i1⟩
  | 122 => ⟨S1x16384x16, .f32⟩
  | 123 => ⟨S16384x16, .f32⟩
  | 124 => ⟨S1x16384x16, .f32⟩
  | 125 => ⟨S16384x16, .f32⟩
  | 126 => ⟨S16384x16, .i1⟩
  | 127 => ⟨S16384x16, .f32⟩
  | _ => ⟨S16384x10, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S16384x10, .f32⟩

abbrev bufTy : (tb : Table) → Fin (tcTables nBuf tb) → BufTy
  | .hbm, ⟨i, _⟩ => hbmTy i
  | _, _ => ⟨S16384x10, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_c_1 : Ref sig .tc := ⟨.hbm, 18, rfl⟩
abbrev main_v8 : Ref sig .tc := ⟨.hbm, 19, rfl⟩
abbrev main_c_2 : Ref sig .tc := ⟨.hbm, 20, rfl⟩
abbrev main_c_3 : Ref sig .tc := ⟨.hbm, 21, rfl⟩
abbrev main_v9 : Ref sig .tc := ⟨.hbm, 22, rfl⟩
abbrev main_c_4 : Ref sig .tc := ⟨.hbm, 23, rfl⟩
abbrev main_v10 : Ref sig .tc := ⟨.hbm, 24, rfl⟩
abbrev main_c_5 : Ref sig .tc := ⟨.hbm, 25, rfl⟩
abbrev main_v11 : Ref sig .tc := ⟨.hbm, 26, rfl⟩
abbrev main_v12 : Ref sig .tc := ⟨.hbm, 27, rfl⟩
abbrev main_c_6 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_c_7 : Ref sig .tc := ⟨.hbm, 32, rfl⟩
abbrev main_v16 : Ref sig .tc := ⟨.hbm, 33, rfl⟩
abbrev main_v17 : Ref sig .tc := ⟨.hbm, 34, rfl⟩
abbrev main_c_8 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_9 : Ref sig .tc := ⟨.hbm, 41, rfl⟩
abbrev main_v23 : Ref sig .tc := ⟨.hbm, 42, rfl⟩
abbrev main_v24 : Ref sig .tc := ⟨.hbm, 43, rfl⟩
abbrev main_c_10 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_c_11 : Ref sig .tc := ⟨.hbm, 50, rfl⟩
abbrev main_v30 : Ref sig .tc := ⟨.hbm, 51, rfl⟩
abbrev main_v31 : Ref sig .tc := ⟨.hbm, 52, rfl⟩
abbrev main_c_12 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_c_13 : Ref sig .tc := ⟨.hbm, 59, rfl⟩
abbrev main_v37 : Ref sig .tc := ⟨.hbm, 60, rfl⟩
abbrev main_v38 : Ref sig .tc := ⟨.hbm, 61, rfl⟩
abbrev main_c_14 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_c_15 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_c_16 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_c_17 : Ref sig .tc := ⟨.hbm, 76, rfl⟩
abbrev main_v50 : Ref sig .tc := ⟨.hbm, 77, rfl⟩
abbrev main_v51 : Ref sig .tc := ⟨.hbm, 78, rfl⟩
abbrev main_c_18 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_c_19 : Ref sig .tc := ⟨.hbm, 85, rfl⟩
abbrev main_v57 : Ref sig .tc := ⟨.hbm, 86, rfl⟩
abbrev main_v58 : Ref sig .tc := ⟨.hbm, 87, rfl⟩
abbrev main_c_20 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_c_21 : Ref sig .tc := ⟨.hbm, 94, rfl⟩
abbrev main_v64 : Ref sig .tc := ⟨.hbm, 95, rfl⟩
abbrev main_v65 : Ref sig .tc := ⟨.hbm, 96, rfl⟩
abbrev main_c_22 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_c_23 : Ref sig .tc := ⟨.hbm, 103, rfl⟩
abbrev main_v71 : Ref sig .tc := ⟨.hbm, 104, rfl⟩
abbrev main_v72 : Ref sig .tc := ⟨.hbm, 105, rfl⟩
abbrev main_c_24 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_c_25 : Ref sig .tc := ⟨.hbm, 113, rfl⟩
abbrev main_v79 : Ref sig .tc := ⟨.hbm, 114, rfl⟩
abbrev main_v80 : Ref sig .tc := ⟨.hbm, 115, rfl⟩
abbrev main_c_26 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_c_27 : Ref sig .tc := ⟨.hbm, 120, rfl⟩
abbrev main_v84 : Ref sig .tc := ⟨.hbm, 121, rfl⟩
abbrev main_v85 : Ref sig .tc := ⟨.hbm, 122, rfl⟩
abbrev main_c_28 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_c_29 : Ref sig .tc := ⟨.hbm, 129, rfl⟩
abbrev main_v91 : Ref sig .tc := ⟨.hbm, 130, rfl⟩
abbrev main_v92 : Ref sig .tc := ⟨.hbm, 131, rfl⟩
abbrev main_c_30 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_c_31 : Ref sig .tc := ⟨.hbm, 138, rfl⟩
abbrev main_v98 : Ref sig .tc := ⟨.hbm, 139, rfl⟩
abbrev main_v99 : Ref sig .tc := ⟨.hbm, 140, rfl⟩
abbrev main_c_32 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_c_33 : Ref sig .tc := ⟨.hbm, 147, rfl⟩
abbrev main_v105 : Ref sig .tc := ⟨.hbm, 148, rfl⟩
abbrev main_v106 : Ref sig .tc := ⟨.hbm, 149, rfl⟩
abbrev main_c_34 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_c_35 : Ref sig .tc := ⟨.hbm, 155, rfl⟩
abbrev main_v111 : Ref sig .tc := ⟨.hbm, 156, rfl⟩
abbrev main_v112 : Ref sig .tc := ⟨.hbm, 157, rfl⟩
abbrev main_c_36 : Ref sig .tc := ⟨.hbm, 158, rfl⟩
abbrev main_v113 : Ref sig .tc := ⟨.hbm, 159, rfl⟩
abbrev main_v114 : Ref sig .tc := ⟨.hbm, 160, rfl⟩
abbrev main_c_37 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_c_38 : Ref sig .tc := ⟨.hbm, 165, rfl⟩
abbrev main_v118 : Ref sig .tc := ⟨.hbm, 166, rfl⟩
abbrev main_v119 : Ref sig .tc := ⟨.hbm, 167, rfl⟩
abbrev main_c_39 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_c_40 : Ref sig .tc := ⟨.hbm, 174, rfl⟩
abbrev main_v125 : Ref sig .tc := ⟨.hbm, 175, rfl⟩
abbrev main_v126 : Ref sig .tc := ⟨.hbm, 176, rfl⟩
abbrev main_c_41 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_c_42 : Ref sig .tc := ⟨.hbm, 183, rfl⟩
abbrev main_v132 : Ref sig .tc := ⟨.hbm, 184, rfl⟩
abbrev main_v133 : Ref sig .tc := ⟨.hbm, 185, rfl⟩
abbrev main_c_43 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_c_44 : Ref sig .tc := ⟨.hbm, 192, rfl⟩
abbrev main_v139 : Ref sig .tc := ⟨.hbm, 193, rfl⟩
abbrev main_v140 : Ref sig .tc := ⟨.hbm, 194, rfl⟩
abbrev main_c_45 : Ref sig .tc := ⟨.hbm, 195, rfl⟩
abbrev main_v141 : Ref sig .tc := ⟨.hbm, 196, rfl⟩
abbrev main_v142 : Ref sig .tc := ⟨.hbm, 197, rfl⟩
abbrev main_v143 : Ref sig .tc := ⟨.hbm, 198, rfl⟩
abbrev main_v144 : Ref sig .tc := ⟨.hbm, 199, rfl⟩
abbrev main_c_46 : Ref sig .tc := ⟨.hbm, 200, rfl⟩
abbrev main_v145 : Ref sig .tc := ⟨.hbm, 201, rfl⟩
abbrev main_v146 : Ref sig .tc := ⟨.hbm, 202, rfl⟩
abbrev main_v147 : Ref sig .tc := ⟨.hbm, 203, rfl⟩
abbrev main_v148 : Ref sig .tc := ⟨.hbm, 204, rfl⟩
abbrev main_c_47 : Ref sig .tc := ⟨.hbm, 205, rfl⟩
abbrev main_v149 : Ref sig .tc := ⟨.hbm, 206, rfl⟩
abbrev main_v150 : Ref sig .tc := ⟨.hbm, 207, rfl⟩
abbrev main_v151 : Ref sig .tc := ⟨.hbm, 208, rfl⟩
abbrev main_c_48 : Ref sig .tc := ⟨.hbm, 209, rfl⟩
abbrev main_v152 : Ref sig .tc := ⟨.hbm, 210, rfl⟩
abbrev main_v153 : Ref sig .tc := ⟨.hbm, 211, rfl⟩
abbrev main_c_49 : Ref sig .tc := ⟨.hbm, 212, rfl⟩
abbrev main_v154 : Ref sig .tc := ⟨.hbm, 213, rfl⟩
abbrev main_v155 : Ref sig .tc := ⟨.hbm, 214, rfl⟩
abbrev main_v156 : Ref sig .tc := ⟨.hbm, 215, rfl⟩
abbrev main_v157 : Ref sig .tc := ⟨.hbm, 216, rfl⟩
abbrev main_v158 : Ref sig .tc := ⟨.hbm, 217, rfl⟩
abbrev main_c_50 : Ref sig .tc := ⟨.hbm, 218, rfl⟩
abbrev main_v159 : Ref sig .tc := ⟨.hbm, 219, rfl⟩
abbrev main_v160 : Ref sig .tc := ⟨.hbm, 220, rfl⟩
abbrev main_c_51 : Ref sig .tc := ⟨.hbm, 221, rfl⟩
abbrev main_v161 : Ref sig .tc := ⟨.hbm, 222, rfl⟩
abbrev main_v162 : Ref sig .tc := ⟨.hbm, 223, rfl⟩
abbrev main_v163 : Ref sig .tc := ⟨.hbm, 224, rfl⟩
abbrev main_v164 : Ref sig .tc := ⟨.hbm, 225, rfl⟩
abbrev main_v165 : Ref sig .tc := ⟨.hbm, 226, rfl⟩
abbrev main_c_52 : Ref sig .tc := ⟨.hbm, 227, rfl⟩
abbrev main_v166 : Ref sig .tc := ⟨.hbm, 228, rfl⟩
abbrev main_v167 : Ref sig .tc := ⟨.hbm, 229, rfl⟩
abbrev main_c_53 : Ref sig .tc := ⟨.hbm, 230, rfl⟩
abbrev main_v168 : Ref sig .tc := ⟨.hbm, 231, rfl⟩
abbrev main_v169 : Ref sig .tc := ⟨.hbm, 232, rfl⟩
abbrev main_v170 : Ref sig .tc := ⟨.hbm, 233, rfl⟩
abbrev main_v171 : Ref sig .tc := ⟨.hbm, 234, rfl⟩
abbrev main_v172 : Ref sig .tc := ⟨.hbm, 235, rfl⟩
abbrev main_c_54 : Ref sig .tc := ⟨.hbm, 236, rfl⟩
abbrev main_v173 : Ref sig .tc := ⟨.hbm, 237, rfl⟩
abbrev main_v174 : Ref sig .tc := ⟨.hbm, 238, rfl⟩
abbrev main_c_55 : Ref sig .tc := ⟨.hbm, 239, rfl⟩
abbrev main_v175 : Ref sig .tc := ⟨.hbm, 240, rfl⟩
abbrev main_v176 : Ref sig .tc := ⟨.hbm, 241, rfl⟩
abbrev main_v177 : Ref sig .tc := ⟨.hbm, 242, rfl⟩
abbrev main_v178 : Ref sig .tc := ⟨.hbm, 243, rfl⟩
abbrev main_v179 : Ref sig .tc := ⟨.hbm, 244, rfl⟩
abbrev main_v180 : Ref sig .tc := ⟨.hbm, 245, rfl⟩
abbrev main_c_56 : Ref sig .tc := ⟨.hbm, 246, rfl⟩
abbrev main_v181 : Ref sig .tc := ⟨.hbm, 247, rfl⟩
abbrev main_v182 : Ref sig .tc := ⟨.hbm, 248, rfl⟩
abbrev main_c_57 : Ref sig .tc := ⟨.hbm, 249, rfl⟩
abbrev main_v183 : Ref sig .tc := ⟨.hbm, 250, rfl⟩
abbrev main_v184 : Ref sig .tc := ⟨.hbm, 251, rfl⟩
abbrev main_v185 : Ref sig .tc := ⟨.hbm, 252, rfl⟩
abbrev main_v186 : Ref sig .tc := ⟨.hbm, 253, rfl⟩
abbrev main_v187 : Ref sig .tc := ⟨.hbm, 254, rfl⟩
abbrev main_v188 : Ref sig .tc := ⟨.hbm, 255, rfl⟩
abbrev main_v189 : Ref sig .tc := ⟨.hbm, 256, rfl⟩
abbrev main_v190 : Ref sig .tc := ⟨.hbm, 257, rfl⟩
abbrev main_v191 : Ref sig .tc := ⟨.hbm, 258, rfl⟩
abbrev main_v192 : Ref sig .tc := ⟨.hbm, 259, rfl⟩
abbrev main_v193 : Ref sig .tc := ⟨.hbm, 260, rfl⟩
abbrev main_v194 : Ref sig .tc := ⟨.hbm, 261, rfl⟩
abbrev main_v195 : Ref sig .tc := ⟨.hbm, 262, rfl⟩
abbrev main_v196 : Ref sig .tc := ⟨.hbm, 263, rfl⟩
abbrev main_v197 : Ref sig .tc := ⟨.hbm, 264, rfl⟩
abbrev main_v198 : Ref sig .tc := ⟨.hbm, 265, rfl⟩
abbrev main_v199 : Ref sig .tc := ⟨.hbm, 266, rfl⟩
abbrev main_v200 : Ref sig .tc := ⟨.hbm, 267, rfl⟩
abbrev main_v201 : Ref sig .tc := ⟨.hbm, 268, rfl⟩
abbrev main_v202 : Ref sig .tc := ⟨.hbm, 269, rfl⟩
abbrev main_v203 : Ref sig .tc := ⟨.hbm, 270, rfl⟩
abbrev main_v204 : Ref sig .tc := ⟨.hbm, 271, rfl⟩
abbrev main_v205 : Ref sig .tc := ⟨.hbm, 272, rfl⟩
abbrev main_v206 : Ref sig .tc := ⟨.hbm, 273, rfl⟩
abbrev main_v207 : Ref sig .tc := ⟨.hbm, 274, rfl⟩
abbrev main_v208 : Ref sig .tc := ⟨.hbm, 275, rfl⟩
abbrev main_v209 : Ref sig .tc := ⟨.hbm, 276, rfl⟩
abbrev main_v210 : Ref sig .tc := ⟨.hbm, 277, rfl⟩
abbrev main_v211 : Ref sig .tc := ⟨.hbm, 278, rfl⟩
abbrev main_v212 : Ref sig .tc := ⟨.hbm, 279, rfl⟩
abbrev main_v213 : Ref sig .tc := ⟨.hbm, 280, rfl⟩
abbrev main_v214 : Ref sig .tc := ⟨.hbm, 281, rfl⟩
abbrev main_v215 : Ref sig .tc := ⟨.hbm, 282, rfl⟩
abbrev main_v216 : Ref sig .tc := ⟨.hbm, 283, rfl⟩
abbrev main_v217 : Ref sig .tc := ⟨.hbm, 284, rfl⟩
abbrev main_v218 : Ref sig .tc := ⟨.hbm, 285, rfl⟩
abbrev main_v219 : Ref sig .tc := ⟨.hbm, 286, rfl⟩
abbrev main_v220 : Ref sig .tc := ⟨.hbm, 287, rfl⟩
abbrev main_v221 : Ref sig .tc := ⟨.hbm, 288, rfl⟩
abbrev main_v222 : Ref sig .tc := ⟨.hbm, 289, rfl⟩
abbrev main_v223 : Ref sig .tc := ⟨.hbm, 290, rfl⟩
abbrev main_v224 : Ref sig .tc := ⟨.hbm, 291, rfl⟩
abbrev main_v225 : Ref sig .tc := ⟨.hbm, 292, rfl⟩
abbrev main_v226 : Ref sig .tc := ⟨.hbm, 293, rfl⟩
abbrev main_v227 : Ref sig .tc := ⟨.hbm, 294, rfl⟩
abbrev main_v228 : Ref sig .tc := ⟨.hbm, 295, rfl⟩
abbrev main_v229 : Ref sig .tc := ⟨.hbm, 296, rfl⟩
abbrev main_v230 : Ref sig .tc := ⟨.hbm, 297, rfl⟩
abbrev main_v231 : Ref sig .tc := ⟨.hbm, 298, rfl⟩
abbrev main_v232 : Ref sig .tc := ⟨.hbm, 299, rfl⟩
abbrev main_v233 : Ref sig .tc := ⟨.hbm, 300, rfl⟩
abbrev main_v234 : Ref sig .tc := ⟨.hbm, 301, rfl⟩
abbrev main_v235 : Ref sig .tc := ⟨.hbm, 302, rfl⟩
abbrev main_v236 : Ref sig .tc := ⟨.hbm, 303, rfl⟩
abbrev main_v237 : Ref sig .tc := ⟨.hbm, 304, rfl⟩
abbrev main_v238 : Ref sig .tc := ⟨.hbm, 305, rfl⟩
abbrev main_v239 : Ref sig .tc := ⟨.hbm, 306, rfl⟩
abbrev main_v240 : Ref sig .tc := ⟨.hbm, 307, rfl⟩
abbrev main_v241 : Ref sig .tc := ⟨.hbm, 308, rfl⟩
abbrev main_v242 : Ref sig .tc := ⟨.hbm, 309, rfl⟩
abbrev main_v243 : Ref sig .tc := ⟨.hbm, 310, rfl⟩
abbrev main_v244 : Ref sig .tc := ⟨.hbm, 311, rfl⟩
abbrev main_v245 : Ref sig .tc := ⟨.hbm, 312, rfl⟩
abbrev main_v246 : Ref sig .tc := ⟨.hbm, 313, rfl⟩
abbrev main_v247 : Ref sig .tc := ⟨.hbm, 314, rfl⟩
abbrev main_v248 : Ref sig .tc := ⟨.hbm, 315, rfl⟩
abbrev main_v249 : Ref sig .tc := ⟨.hbm, 316, rfl⟩
abbrev main_v250 : Ref sig .tc := ⟨.hbm, 317, rfl⟩
abbrev main_v251 : Ref sig .tc := ⟨.hbm, 318, rfl⟩
abbrev main_v252 : Ref sig .tc := ⟨.hbm, 319, rfl⟩
abbrev main_v253 : Ref sig .tc := ⟨.hbm, 320, rfl⟩
abbrev main_v254 : Ref sig .tc := ⟨.hbm, 321, rfl⟩
abbrev main_v255 : Ref sig .tc := ⟨.hbm, 322, rfl⟩
abbrev main_v256 : Ref sig .tc := ⟨.hbm, 323, rfl⟩
abbrev main_v257 : Ref sig .tc := ⟨.hbm, 324, rfl⟩
abbrev main_v258 : Ref sig .tc := ⟨.hbm, 325, rfl⟩
abbrev main_v259 : Ref sig .tc := ⟨.hbm, 326, rfl⟩
abbrev main_v260 : Ref sig .tc := ⟨.hbm, 327, rfl⟩
abbrev main_v261 : Ref sig .tc := ⟨.hbm, 328, rfl⟩
abbrev main_v262 : Ref sig .tc := ⟨.hbm, 329, rfl⟩
abbrev main_v263 : Ref sig .tc := ⟨.hbm, 330, rfl⟩
abbrev main_v264 : Ref sig .tc := ⟨.hbm, 331, rfl⟩
abbrev main_v265 : Ref sig .tc := ⟨.hbm, 332, rfl⟩
abbrev main_v266 : Ref sig .tc := ⟨.hbm, 333, rfl⟩
abbrev main_v267 : Ref sig .tc := ⟨.hbm, 334, rfl⟩
abbrev main_v268 : Ref sig .tc := ⟨.hbm, 335, rfl⟩
abbrev main_v269 : Ref sig .tc := ⟨.hbm, 336, rfl⟩
abbrev main_v270 : Ref sig .tc := ⟨.hbm, 337, rfl⟩
abbrev main_v271 : Ref sig .tc := ⟨.hbm, 338, rfl⟩
abbrev main_v272 : Ref sig .tc := ⟨.hbm, 339, rfl⟩
abbrev main_v273 : Ref sig .tc := ⟨.hbm, 340, rfl⟩
abbrev main_v274 : Ref sig .tc := ⟨.hbm, 341, rfl⟩
abbrev main_v275 : Ref sig .tc := ⟨.hbm, 342, rfl⟩
abbrev main_v276 : Ref sig .tc := ⟨.hbm, 343, rfl⟩
abbrev main_v277 : Ref sig .tc := ⟨.hbm, 344, rfl⟩
abbrev main_v278 : Ref sig .tc := ⟨.hbm, 345, rfl⟩
abbrev main_v279 : Ref sig .tc := ⟨.hbm, 346, rfl⟩
abbrev main_v280 : Ref sig .tc := ⟨.hbm, 347, rfl⟩
abbrev main_v281 : Ref sig .tc := ⟨.hbm, 348, rfl⟩
abbrev main_v282 : Ref sig .tc := ⟨.hbm, 349, rfl⟩
abbrev main_v283 : Ref sig .tc := ⟨.hbm, 350, rfl⟩
abbrev main_v284 : Ref sig .tc := ⟨.hbm, 351, rfl⟩
abbrev main_v285 : Ref sig .tc := ⟨.hbm, 352, rfl⟩
abbrev main_v286 : Ref sig .tc := ⟨.hbm, 353, rfl⟩
abbrev main_v287 : Ref sig .tc := ⟨.hbm, 354, rfl⟩
abbrev main_v288 : Ref sig .tc := ⟨.hbm, 355, rfl⟩
abbrev main_v289 : Ref sig .tc := ⟨.hbm, 356, rfl⟩
abbrev main_v290 : Ref sig .tc := ⟨.hbm, 357, rfl⟩
abbrev main_v291 : Ref sig .tc := ⟨.hbm, 358, rfl⟩
abbrev main_v292 : Ref sig .tc := ⟨.hbm, 359, rfl⟩
abbrev main_v293 : Ref sig .tc := ⟨.hbm, 360, rfl⟩
abbrev main_v294 : Ref sig .tc := ⟨.hbm, 361, rfl⟩
abbrev main_v295 : Ref sig .tc := ⟨.hbm, 362, rfl⟩
abbrev main_v296 : Ref sig .tc := ⟨.hbm, 363, rfl⟩
abbrev main_v297 : Ref sig .tc := ⟨.hbm, 364, rfl⟩
abbrev main_v298 : Ref sig .tc := ⟨.hbm, 365, rfl⟩
abbrev main_v299 : Ref sig .tc := ⟨.hbm, 366, rfl⟩
abbrev main_v300 : Ref sig .tc := ⟨.hbm, 367, rfl⟩
abbrev main_v301 : Ref sig .tc := ⟨.hbm, 368, rfl⟩
abbrev main_v302 : Ref sig .tc := ⟨.hbm, 369, rfl⟩
abbrev main_v303 : Ref sig .tc := ⟨.hbm, 370, rfl⟩
abbrev main_v304 : Ref sig .tc := ⟨.hbm, 371, rfl⟩
abbrev main_v305 : Ref sig .tc := ⟨.hbm, 372, rfl⟩
abbrev main_v306 : Ref sig .tc := ⟨.hbm, 373, rfl⟩
abbrev main_v307 : Ref sig .tc := ⟨.hbm, 374, rfl⟩
abbrev main_v308 : Ref sig .tc := ⟨.hbm, 375, rfl⟩
abbrev main_v309 : Ref sig .tc := ⟨.hbm, 376, rfl⟩
abbrev main_v310 : Ref sig .tc := ⟨.hbm, 377, rfl⟩
abbrev main_v311 : Ref sig .tc := ⟨.hbm, 378, rfl⟩
abbrev main_v312 : Ref sig .tc := ⟨.hbm, 379, rfl⟩
abbrev main_v313 : Ref sig .tc := ⟨.hbm, 380, rfl⟩
abbrev main_v314 : Ref sig .tc := ⟨.hbm, 381, rfl⟩
abbrev main_v315 : Ref sig .tc := ⟨.hbm, 382, rfl⟩
abbrev main_v316 : Ref sig .tc := ⟨.hbm, 383, rfl⟩
abbrev main_v317 : Ref sig .tc := ⟨.hbm, 384, rfl⟩
abbrev main_v318 : Ref sig .tc := ⟨.hbm, 385, rfl⟩
abbrev main_v319 : Ref sig .tc := ⟨.hbm, 386, rfl⟩
abbrev main_v320 : Ref sig .tc := ⟨.hbm, 387, rfl⟩
abbrev main_v321 : Ref sig .tc := ⟨.hbm, 388, rfl⟩
abbrev main_v322 : Ref sig .tc := ⟨.hbm, 389, rfl⟩
abbrev main_v323 : Ref sig .tc := ⟨.hbm, 390, rfl⟩
abbrev main_v324 : Ref sig .tc := ⟨.hbm, 391, rfl⟩
abbrev main_v325 : Ref sig .tc := ⟨.hbm, 392, rfl⟩
abbrev main_v326 : Ref sig .tc := ⟨.hbm, 393, rfl⟩
abbrev main_v327 : Ref sig .tc := ⟨.hbm, 394, rfl⟩
abbrev main_v328 : Ref sig .tc := ⟨.hbm, 395, rfl⟩
abbrev main_v329 : Ref sig .tc := ⟨.hbm, 396, rfl⟩
abbrev main_v330 : Ref sig .tc := ⟨.hbm, 397, rfl⟩
abbrev main_v331 : Ref sig .tc := ⟨.hbm, 398, rfl⟩
abbrev main_v332 : Ref sig .tc := ⟨.hbm, 399, rfl⟩
abbrev main_v333 : Ref sig .tc := ⟨.hbm, 400, rfl⟩
abbrev main_v334 : Ref sig .tc := ⟨.hbm, 401, rfl⟩
abbrev main_v335 : Ref sig .tc := ⟨.hbm, 402, rfl⟩
abbrev main_v336 : Ref sig .tc := ⟨.hbm, 403, rfl⟩
abbrev main_v337 : Ref sig .tc := ⟨.hbm, 404, rfl⟩
abbrev main_v338 : Ref sig .tc := ⟨.hbm, 405, rfl⟩
abbrev main_v339 : Ref sig .tc := ⟨.hbm, 406, rfl⟩
abbrev main_v340 : Ref sig .tc := ⟨.hbm, 407, rfl⟩
abbrev main_v341 : Ref sig .tc := ⟨.hbm, 408, rfl⟩
abbrev main_v342 : Ref sig .tc := ⟨.hbm, 409, rfl⟩
abbrev main_v343 : Ref sig .tc := ⟨.hbm, 410, rfl⟩
abbrev main_v344 : Ref sig .tc := ⟨.hbm, 411, rfl⟩
abbrev main_v345 : Ref sig .tc := ⟨.hbm, 412, rfl⟩
abbrev main_v346 : Ref sig .tc := ⟨.hbm, 413, rfl⟩
abbrev main_v347 : Ref sig .tc := ⟨.hbm, 414, rfl⟩
abbrev main_v348 : Ref sig .tc := ⟨.hbm, 415, rfl⟩
abbrev main_v349 : Ref sig .tc := ⟨.hbm, 416, rfl⟩
abbrev main_v350 : Ref sig .tc := ⟨.hbm, 417, rfl⟩
abbrev main_v351 : Ref sig .tc := ⟨.hbm, 418, rfl⟩
abbrev main_v352 : Ref sig .tc := ⟨.hbm, 419, rfl⟩
abbrev main_v353 : Ref sig .tc := ⟨.hbm, 420, rfl⟩
abbrev main_v354 : Ref sig .tc := ⟨.hbm, 421, rfl⟩
abbrev main_v355 : Ref sig .tc := ⟨.hbm, 422, rfl⟩
abbrev main_v356 : Ref sig .tc := ⟨.hbm, 423, rfl⟩
abbrev main_v357 : Ref sig .tc := ⟨.hbm, 424, rfl⟩
abbrev main_v358 : Ref sig .tc := ⟨.hbm, 425, rfl⟩
abbrev main_v359 : Ref sig .tc := ⟨.hbm, 426, rfl⟩
abbrev main_v360 : Ref sig .tc := ⟨.hbm, 427, rfl⟩
abbrev main_v361 : Ref sig .tc := ⟨.hbm, 428, rfl⟩
abbrev main_v362 : Ref sig .tc := ⟨.hbm, 429, rfl⟩
abbrev main_v363 : Ref sig .tc := ⟨.hbm, 430, rfl⟩
abbrev main_v364 : Ref sig .tc := ⟨.hbm, 431, rfl⟩
abbrev main_v365 : Ref sig .tc := ⟨.hbm, 432, rfl⟩
abbrev main_v366 : Ref sig .tc := ⟨.hbm, 433, rfl⟩
abbrev main_v367 : Ref sig .tc := ⟨.hbm, 434, rfl⟩
abbrev main_v368 : Ref sig .tc := ⟨.hbm, 435, rfl⟩
abbrev main_v369 : Ref sig .tc := ⟨.hbm, 436, rfl⟩
abbrev main_v370 : Ref sig .tc := ⟨.hbm, 437, rfl⟩
abbrev main_v371 : Ref sig .tc := ⟨.hbm, 438, rfl⟩
abbrev main_v372 : Ref sig .tc := ⟨.hbm, 439, rfl⟩
abbrev main_v373 : Ref sig .tc := ⟨.hbm, 440, rfl⟩
abbrev main_v374 : Ref sig .tc := ⟨.hbm, 441, rfl⟩
abbrev main_v375 : Ref sig .tc := ⟨.hbm, 442, rfl⟩
abbrev main_v376 : Ref sig .tc := ⟨.hbm, 443, rfl⟩
abbrev main_v377 : Ref sig .tc := ⟨.hbm, 444, rfl⟩
abbrev main_v378 : Ref sig .tc := ⟨.hbm, 445, rfl⟩
abbrev main_v379 : Ref sig .tc := ⟨.hbm, 446, rfl⟩
abbrev main_v380 : Ref sig .tc := ⟨.hbm, 447, rfl⟩
abbrev main_v381 : Ref sig .tc := ⟨.hbm, 448, rfl⟩
abbrev main_v382 : Ref sig .tc := ⟨.hbm, 449, rfl⟩
abbrev main_v383 : Ref sig .tc := ⟨.hbm, 450, rfl⟩
abbrev main_v384 : Ref sig .tc := ⟨.hbm, 451, rfl⟩
abbrev main_v385 : Ref sig .tc := ⟨.hbm, 452, rfl⟩
abbrev main_v386 : Ref sig .tc := ⟨.hbm, 453, rfl⟩
abbrev main_v387 : Ref sig .tc := ⟨.hbm, 454, rfl⟩
abbrev main_v388 : Ref sig .tc := ⟨.hbm, 455, rfl⟩
abbrev main_v389 : Ref sig .tc := ⟨.hbm, 456, rfl⟩
abbrev main_v390 : Ref sig .tc := ⟨.hbm, 457, rfl⟩
abbrev main_v391 : Ref sig .tc := ⟨.hbm, 458, rfl⟩
abbrev main_v392 : Ref sig .tc := ⟨.hbm, 459, rfl⟩
abbrev main_v393 : Ref sig .tc := ⟨.hbm, 460, rfl⟩
abbrev main_v394 : Ref sig .tc := ⟨.hbm, 461, rfl⟩
abbrev main_v395 : Ref sig .tc := ⟨.hbm, 462, rfl⟩
abbrev main_v396 : Ref sig .tc := ⟨.hbm, 463, rfl⟩
abbrev main_v397 : Ref sig .tc := ⟨.hbm, 464, rfl⟩
abbrev main_v398 : Ref sig .tc := ⟨.hbm, 465, rfl⟩
abbrev main_v399 : Ref sig .tc := ⟨.hbm, 466, rfl⟩
abbrev main_v400 : Ref sig .tc := ⟨.hbm, 467, rfl⟩
abbrev main_v401 : Ref sig .tc := ⟨.hbm, 468, rfl⟩
abbrev main_v402 : Ref sig .tc := ⟨.hbm, 469, rfl⟩
abbrev main_v403 : Ref sig .tc := ⟨.hbm, 470, rfl⟩
abbrev main_v404 : Ref sig .tc := ⟨.hbm, 471, rfl⟩
abbrev main_v405 : Ref sig .tc := ⟨.hbm, 472, rfl⟩
abbrev main_v406 : Ref sig .tc := ⟨.hbm, 473, rfl⟩
abbrev main_v407 : Ref sig .tc := ⟨.hbm, 474, rfl⟩
abbrev main_v408 : Ref sig .tc := ⟨.hbm, 475, rfl⟩
abbrev main_v409 : Ref sig .tc := ⟨.hbm, 476, rfl⟩
abbrev main_v410 : Ref sig .tc := ⟨.hbm, 477, rfl⟩
abbrev main_v411 : Ref sig .tc := ⟨.hbm, 478, rfl⟩
abbrev main_v412 : Ref sig .tc := ⟨.hbm, 479, rfl⟩
abbrev main_v413 : Ref sig .tc := ⟨.hbm, 480, rfl⟩
abbrev main_v414 : Ref sig .tc := ⟨.hbm, 481, rfl⟩
abbrev main_v415 : Ref sig .tc := ⟨.hbm, 482, rfl⟩
abbrev main_v416 : Ref sig .tc := ⟨.hbm, 483, rfl⟩
abbrev main_v417 : Ref sig .tc := ⟨.hbm, 484, rfl⟩
abbrev main_v418 : Ref sig .tc := ⟨.hbm, 485, rfl⟩
abbrev main_v419 : Ref sig .tc := ⟨.hbm, 486, rfl⟩
abbrev main_v420 : Ref sig .tc := ⟨.hbm, 487, rfl⟩
abbrev main_v421 : Ref sig .tc := ⟨.hbm, 488, rfl⟩
abbrev main_v422 : Ref sig .tc := ⟨.hbm, 489, rfl⟩
abbrev main_v423 : Ref sig .tc := ⟨.hbm, 490, rfl⟩
abbrev main_v424 : Ref sig .tc := ⟨.hbm, 491, rfl⟩
abbrev main_v425 : Ref sig .tc := ⟨.hbm, 492, rfl⟩
abbrev main_v426 : Ref sig .tc := ⟨.hbm, 493, rfl⟩
abbrev main_v427 : Ref sig .tc := ⟨.hbm, 494, rfl⟩
abbrev main_v428 : Ref sig .tc := ⟨.hbm, 495, rfl⟩
abbrev main_v429 : Ref sig .tc := ⟨.hbm, 496, rfl⟩
abbrev main_v430 : Ref sig .tc := ⟨.hbm, 497, rfl⟩
abbrev main_v431 : Ref sig .tc := ⟨.hbm, 498, rfl⟩
abbrev main_v432 : Ref sig .tc := ⟨.hbm, 499, rfl⟩
abbrev main_v433 : Ref sig .tc := ⟨.hbm, 500, rfl⟩
abbrev main_v434 : Ref sig .tc := ⟨.hbm, 501, rfl⟩
abbrev main_v435 : Ref sig .tc := ⟨.hbm, 502, rfl⟩
abbrev main_v436 : Ref sig .tc := ⟨.hbm, 503, rfl⟩
abbrev main_c_58 : Ref sig .tc := ⟨.hbm, 504, rfl⟩
abbrev main_v437 : Ref sig .tc := ⟨.hbm, 505, rfl⟩
abbrev main_v438 : Ref sig .tc := ⟨.hbm, 506, rfl⟩
abbrev main_v439 : Ref sig .tc := ⟨.hbm, 507, rfl⟩
abbrev main_v440 : Ref sig .tc := ⟨.hbm, 508, rfl⟩
abbrev main_v441 : Ref sig .tc := ⟨.hbm, 509, rfl⟩
abbrev main_v442 : Ref sig .tc := ⟨.hbm, 510, rfl⟩
abbrev main_v443 : Ref sig .tc := ⟨.hbm, 511, rfl⟩
abbrev main_v444 : Ref sig .tc := ⟨.hbm, 512, rfl⟩
abbrev main_v445 : Ref sig .tc := ⟨.hbm, 513, rfl⟩
abbrev main_v446 : Ref sig .tc := ⟨.hbm, 514, rfl⟩
abbrev main_c_59 : Ref sig .tc := ⟨.hbm, 515, rfl⟩
abbrev main_v447 : Ref sig .tc := ⟨.hbm, 516, rfl⟩
abbrev main_v448 : Ref sig .tc := ⟨.hbm, 517, rfl⟩
abbrev main_v449 : Ref sig .tc := ⟨.hbm, 518, rfl⟩
abbrev main_v450 : Ref sig .tc := ⟨.hbm, 519, rfl⟩
abbrev main_v451 : Ref sig .tc := ⟨.hbm, 520, rfl⟩
abbrev main_v452 : Ref sig .tc := ⟨.hbm, 521, rfl⟩
abbrev main_v453 : Ref sig .tc := ⟨.hbm, 522, rfl⟩
abbrev main_v454 : Ref sig .tc := ⟨.hbm, 523, rfl⟩
abbrev main_v455 : Ref sig .tc := ⟨.hbm, 524, rfl⟩
abbrev main_v456 : Ref sig .tc := ⟨.hbm, 525, rfl⟩
abbrev main_v457 : Ref sig .tc := ⟨.hbm, 526, rfl⟩
abbrev main_v458 : Ref sig .tc := ⟨.hbm, 527, rfl⟩
abbrev main_v459 : Ref sig .tc := ⟨.hbm, 528, rfl⟩
abbrev main_c_60 : Ref sig .tc := ⟨.hbm, 529, rfl⟩
abbrev main_v460 : Ref sig .tc := ⟨.hbm, 530, rfl⟩
abbrev main_v461 : Ref sig .tc := ⟨.hbm, 531, rfl⟩
abbrev main_c_61 : Ref sig .tc := ⟨.hbm, 532, rfl⟩
abbrev main_v462 : Ref sig .tc := ⟨.hbm, 533, rfl⟩
abbrev main_v463 : Ref sig .tc := ⟨.hbm, 534, rfl⟩
abbrev main_v464 : Ref sig .tc := ⟨.hbm, 535, rfl⟩
abbrev main_v465 : Ref sig .tc := ⟨.hbm, 536, rfl⟩
abbrev main_v466 : Ref sig .tc := ⟨.hbm, 537, rfl⟩
abbrev main_c_62 : Ref sig .tc := ⟨.hbm, 538, rfl⟩
abbrev main_v467 : Ref sig .tc := ⟨.hbm, 539, rfl⟩
abbrev main_v468 : Ref sig .tc := ⟨.hbm, 540, rfl⟩
abbrev main_c_63 : Ref sig .tc := ⟨.hbm, 541, rfl⟩
abbrev main_v469 : Ref sig .tc := ⟨.hbm, 542, rfl⟩
abbrev main_v470 : Ref sig .tc := ⟨.hbm, 543, rfl⟩
abbrev main_v471 : Ref sig .tc := ⟨.hbm, 544, rfl⟩
abbrev main_v472 : Ref sig .tc := ⟨.hbm, 545, rfl⟩
abbrev main_v473 : Ref sig .tc := ⟨.hbm, 546, rfl⟩
abbrev main_c_64 : Ref sig .tc := ⟨.hbm, 547, rfl⟩
abbrev main_v474 : Ref sig .tc := ⟨.hbm, 548, rfl⟩
abbrev main_v475 : Ref sig .tc := ⟨.hbm, 549, rfl⟩
abbrev main_c_65 : Ref sig .tc := ⟨.hbm, 550, rfl⟩
abbrev main_v476 : Ref sig .tc := ⟨.hbm, 551, rfl⟩
abbrev main_v477 : Ref sig .tc := ⟨.hbm, 552, rfl⟩
abbrev main_v478 : Ref sig .tc := ⟨.hbm, 553, rfl⟩
abbrev main_v479 : Ref sig .tc := ⟨.hbm, 554, rfl⟩
abbrev main_v480 : Ref sig .tc := ⟨.hbm, 555, rfl⟩
abbrev main_c_66 : Ref sig .tc := ⟨.hbm, 556, rfl⟩
abbrev main_v481 : Ref sig .tc := ⟨.hbm, 557, rfl⟩
abbrev main_v482 : Ref sig .tc := ⟨.hbm, 558, rfl⟩
abbrev main_c_67 : Ref sig .tc := ⟨.hbm, 559, rfl⟩
abbrev main_v483 : Ref sig .tc := ⟨.hbm, 560, rfl⟩
abbrev main_v484 : Ref sig .tc := ⟨.hbm, 561, rfl⟩
abbrev main_v485 : Ref sig .tc := ⟨.hbm, 562, rfl⟩
abbrev main_v486 : Ref sig .tc := ⟨.hbm, 563, rfl⟩
abbrev main_v487 : Ref sig .tc := ⟨.hbm, 564, rfl⟩
abbrev main_v488 : Ref sig .tc := ⟨.hbm, 565, rfl⟩
abbrev main_v489 : Ref sig .tc := ⟨.hbm, 566, rfl⟩
abbrev main_v490 : Ref sig .tc := ⟨.hbm, 567, rfl⟩
abbrev main_v491 : Ref sig .tc := ⟨.hbm, 568, rfl⟩
abbrev main_v492 : Ref sig .tc := ⟨.hbm, 569, rfl⟩
abbrev main_c_68 : Ref sig .tc := ⟨.hbm, 570, rfl⟩
abbrev main_v493 : Ref sig .tc := ⟨.hbm, 571, rfl⟩
abbrev main_v494 : Ref sig .tc := ⟨.hbm, 572, rfl⟩
abbrev main_v495 : Ref sig .tc := ⟨.hbm, 573, rfl⟩
abbrev main_c_69 : Ref sig .tc := ⟨.hbm, 574, rfl⟩
abbrev main_v496 : Ref sig .tc := ⟨.hbm, 575, rfl⟩
abbrev main_v497 : Ref sig .tc := ⟨.hbm, 576, rfl⟩
abbrev main_c_70 : Ref sig .tc := ⟨.hbm, 577, rfl⟩
abbrev main_v498 : Ref sig .tc := ⟨.hbm, 578, rfl⟩
abbrev main_v499 : Ref sig .tc := ⟨.hbm, 579, rfl⟩
abbrev main_v500 : Ref sig .tc := ⟨.hbm, 580, rfl⟩
abbrev main_v501 : Ref sig .tc := ⟨.hbm, 581, rfl⟩
abbrev main_v502 : Ref sig .tc := ⟨.hbm, 582, rfl⟩
abbrev main_c_71 : Ref sig .tc := ⟨.hbm, 583, rfl⟩
abbrev main_v503 : Ref sig .tc := ⟨.hbm, 584, rfl⟩
abbrev main_v504 : Ref sig .tc := ⟨.hbm, 585, rfl⟩
abbrev main_c_72 : Ref sig .tc := ⟨.hbm, 586, rfl⟩
abbrev main_v505 : Ref sig .tc := ⟨.hbm, 587, rfl⟩
abbrev main_v506 : Ref sig .tc := ⟨.hbm, 588, rfl⟩
abbrev main_v507 : Ref sig .tc := ⟨.hbm, 589, rfl⟩
abbrev main_v508 : Ref sig .tc := ⟨.hbm, 590, rfl⟩
abbrev main_v509 : Ref sig .tc := ⟨.hbm, 591, rfl⟩
abbrev main_c_73 : Ref sig .tc := ⟨.hbm, 592, rfl⟩
abbrev main_v510 : Ref sig .tc := ⟨.hbm, 593, rfl⟩
abbrev main_v511 : Ref sig .tc := ⟨.hbm, 594, rfl⟩
abbrev main_c_74 : Ref sig .tc := ⟨.hbm, 595, rfl⟩
abbrev main_v512 : Ref sig .tc := ⟨.hbm, 596, rfl⟩
abbrev main_v513 : Ref sig .tc := ⟨.hbm, 597, rfl⟩
abbrev main_v514 : Ref sig .tc := ⟨.hbm, 598, rfl⟩
abbrev main_v515 : Ref sig .tc := ⟨.hbm, 599, rfl⟩
abbrev main_v516 : Ref sig .tc := ⟨.hbm, 600, rfl⟩
abbrev main_c_75 : Ref sig .tc := ⟨.hbm, 601, rfl⟩
abbrev main_v517 : Ref sig .tc := ⟨.hbm, 602, rfl⟩
abbrev main_v518 : Ref sig .tc := ⟨.hbm, 603, rfl⟩
abbrev main_c_76 : Ref sig .tc := ⟨.hbm, 604, rfl⟩
abbrev main_v519 : Ref sig .tc := ⟨.hbm, 605, rfl⟩
abbrev main_v520 : Ref sig .tc := ⟨.hbm, 606, rfl⟩
abbrev main_v521 : Ref sig .tc := ⟨.hbm, 607, rfl⟩
abbrev main_v522 : Ref sig .tc := ⟨.hbm, 608, rfl⟩
abbrev main_v523 : Ref sig .tc := ⟨.hbm, 609, rfl⟩
abbrev main_v524 : Ref sig .tc := ⟨.hbm, 610, rfl⟩
abbrev main_v525 : Ref sig .tc := ⟨.hbm, 611, rfl⟩
abbrev main_v526 : Ref sig .tc := ⟨.hbm, 612, rfl⟩
abbrev main_v527 : Ref sig .tc := ⟨.hbm, 613, rfl⟩
abbrev main_v528 : Ref sig .tc := ⟨.hbm, 614, rfl⟩
abbrev main_c_77 : Ref sig .tc := ⟨.hbm, 615, rfl⟩
abbrev main_v529 : Ref sig .tc := ⟨.hbm, 616, rfl⟩
abbrev main_v530 : Ref sig .tc := ⟨.hbm, 617, rfl⟩
abbrev main_v531 : Ref sig .tc := ⟨.hbm, 618, rfl⟩
abbrev main_c_78 : Ref sig .tc := ⟨.hbm, 619, rfl⟩
abbrev main_v532 : Ref sig .tc := ⟨.hbm, 620, rfl⟩
abbrev main_v533 : Ref sig .tc := ⟨.hbm, 621, rfl⟩
abbrev main_c_79 : Ref sig .tc := ⟨.hbm, 622, rfl⟩
abbrev main_v534 : Ref sig .tc := ⟨.hbm, 623, rfl⟩
abbrev main_v535 : Ref sig .tc := ⟨.hbm, 624, rfl⟩
abbrev main_v536 : Ref sig .tc := ⟨.hbm, 625, rfl⟩
abbrev main_v537 : Ref sig .tc := ⟨.hbm, 626, rfl⟩
abbrev main_v538 : Ref sig .tc := ⟨.hbm, 627, rfl⟩
abbrev main_c_80 : Ref sig .tc := ⟨.hbm, 628, rfl⟩
abbrev main_v539 : Ref sig .tc := ⟨.hbm, 629, rfl⟩
abbrev main_v540 : Ref sig .tc := ⟨.hbm, 630, rfl⟩
abbrev main_c_81 : Ref sig .tc := ⟨.hbm, 631, rfl⟩
abbrev main_v541 : Ref sig .tc := ⟨.hbm, 632, rfl⟩
abbrev main_v542 : Ref sig .tc := ⟨.hbm, 633, rfl⟩
abbrev main_v543 : Ref sig .tc := ⟨.hbm, 634, rfl⟩
abbrev main_v544 : Ref sig .tc := ⟨.hbm, 635, rfl⟩
abbrev main_v545 : Ref sig .tc := ⟨.hbm, 636, rfl⟩
abbrev main_c_82 : Ref sig .tc := ⟨.hbm, 637, rfl⟩
abbrev main_v546 : Ref sig .tc := ⟨.hbm, 638, rfl⟩
abbrev main_v547 : Ref sig .tc := ⟨.hbm, 639, rfl⟩
abbrev main_c_83 : Ref sig .tc := ⟨.hbm, 640, rfl⟩
abbrev main_v548 : Ref sig .tc := ⟨.hbm, 641, rfl⟩
abbrev main_v549 : Ref sig .tc := ⟨.hbm, 642, rfl⟩
abbrev main_v550 : Ref sig .tc := ⟨.hbm, 643, rfl⟩
abbrev main_v551 : Ref sig .tc := ⟨.hbm, 644, rfl⟩
abbrev main_v552 : Ref sig .tc := ⟨.hbm, 645, rfl⟩
abbrev main_c_84 : Ref sig .tc := ⟨.hbm, 646, rfl⟩
abbrev main_v553 : Ref sig .tc := ⟨.hbm, 647, rfl⟩
abbrev main_v554 : Ref sig .tc := ⟨.hbm, 648, rfl⟩
abbrev main_c_85 : Ref sig .tc := ⟨.hbm, 649, rfl⟩
abbrev main_v555 : Ref sig .tc := ⟨.hbm, 650, rfl⟩
abbrev main_v556 : Ref sig .tc := ⟨.hbm, 651, rfl⟩
abbrev main_v557 : Ref sig .tc := ⟨.hbm, 652, rfl⟩
abbrev main_v558 : Ref sig .tc := ⟨.hbm, 653, rfl⟩
abbrev main_v559 : Ref sig .tc := ⟨.hbm, 654, rfl⟩
abbrev main_v560 : Ref sig .tc := ⟨.hbm, 655, rfl⟩
abbrev main_v561 : Ref sig .tc := ⟨.hbm, 656, rfl⟩
abbrev main_v562 : Ref sig .tc := ⟨.hbm, 657, rfl⟩
abbrev main_v563 : Ref sig .tc := ⟨.hbm, 658, rfl⟩
abbrev main_v564 : Ref sig .tc := ⟨.hbm, 659, rfl⟩
abbrev main_c_86 : Ref sig .tc := ⟨.hbm, 660, rfl⟩
abbrev main_v565 : Ref sig .tc := ⟨.hbm, 661, rfl⟩
abbrev main_v566 : Ref sig .tc := ⟨.hbm, 662, rfl⟩
abbrev main_v567 : Ref sig .tc := ⟨.hbm, 663, rfl⟩
abbrev main_c_87 : Ref sig .tc := ⟨.hbm, 664, rfl⟩
abbrev main_v568 : Ref sig .tc := ⟨.hbm, 665, rfl⟩
abbrev main_v569 : Ref sig .tc := ⟨.hbm, 666, rfl⟩
abbrev main_c_88 : Ref sig .tc := ⟨.hbm, 667, rfl⟩
abbrev main_v570 : Ref sig .tc := ⟨.hbm, 668, rfl⟩
abbrev main_v571 : Ref sig .tc := ⟨.hbm, 669, rfl⟩
abbrev main_v572 : Ref sig .tc := ⟨.hbm, 670, rfl⟩
abbrev main_v573 : Ref sig .tc := ⟨.hbm, 671, rfl⟩
abbrev main_v574 : Ref sig .tc := ⟨.hbm, 672, rfl⟩
abbrev main_c_89 : Ref sig .tc := ⟨.hbm, 673, rfl⟩
abbrev main_v575 : Ref sig .tc := ⟨.hbm, 674, rfl⟩
abbrev main_v576 : Ref sig .tc := ⟨.hbm, 675, rfl⟩
abbrev main_c_90 : Ref sig .tc := ⟨.hbm, 676, rfl⟩
abbrev main_v577 : Ref sig .tc := ⟨.hbm, 677, rfl⟩
abbrev main_v578 : Ref sig .tc := ⟨.hbm, 678, rfl⟩
abbrev main_v579 : Ref sig .tc := ⟨.hbm, 679, rfl⟩
abbrev main_v580 : Ref sig .tc := ⟨.hbm, 680, rfl⟩
abbrev main_v581 : Ref sig .tc := ⟨.hbm, 681, rfl⟩
abbrev main_c_91 : Ref sig .tc := ⟨.hbm, 682, rfl⟩
abbrev main_v582 : Ref sig .tc := ⟨.hbm, 683, rfl⟩
abbrev main_v583 : Ref sig .tc := ⟨.hbm, 684, rfl⟩
abbrev main_c_92 : Ref sig .tc := ⟨.hbm, 685, rfl⟩
abbrev main_v584 : Ref sig .tc := ⟨.hbm, 686, rfl⟩
abbrev main_v585 : Ref sig .tc := ⟨.hbm, 687, rfl⟩
abbrev main_v586 : Ref sig .tc := ⟨.hbm, 688, rfl⟩
abbrev main_v587 : Ref sig .tc := ⟨.hbm, 689, rfl⟩
abbrev main_v588 : Ref sig .tc := ⟨.hbm, 690, rfl⟩
abbrev main_c_93 : Ref sig .tc := ⟨.hbm, 691, rfl⟩
abbrev main_v589 : Ref sig .tc := ⟨.hbm, 692, rfl⟩
abbrev main_v590 : Ref sig .tc := ⟨.hbm, 693, rfl⟩
abbrev main_c_94 : Ref sig .tc := ⟨.hbm, 694, rfl⟩
abbrev main_v591 : Ref sig .tc := ⟨.hbm, 695, rfl⟩
abbrev main_v592 : Ref sig .tc := ⟨.hbm, 696, rfl⟩
abbrev main_v593 : Ref sig .tc := ⟨.hbm, 697, rfl⟩
abbrev main_v594 : Ref sig .tc := ⟨.hbm, 698, rfl⟩
abbrev main_v595 : Ref sig .tc := ⟨.hbm, 699, rfl⟩
abbrev main_v596 : Ref sig .tc := ⟨.hbm, 700, rfl⟩
abbrev main_v597 : Ref sig .tc := ⟨.hbm, 701, rfl⟩
abbrev main_v598 : Ref sig .tc := ⟨.hbm, 702, rfl⟩
abbrev main_v599 : Ref sig .tc := ⟨.hbm, 703, rfl⟩
abbrev main_v600 : Ref sig .tc := ⟨.hbm, 704, rfl⟩
abbrev main_c_95 : Ref sig .tc := ⟨.hbm, 705, rfl⟩
abbrev main_v601 : Ref sig .tc := ⟨.hbm, 706, rfl⟩
abbrev main_v602 : Ref sig .tc := ⟨.hbm, 707, rfl⟩
abbrev main_v603 : Ref sig .tc := ⟨.hbm, 708, rfl⟩
abbrev main_c_96 : Ref sig .tc := ⟨.hbm, 709, rfl⟩
abbrev main_v604 : Ref sig .tc := ⟨.hbm, 710, rfl⟩
abbrev main_v605 : Ref sig .tc := ⟨.hbm, 711, rfl⟩
abbrev main_c_97 : Ref sig .tc := ⟨.hbm, 712, rfl⟩
abbrev main_v606 : Ref sig .tc := ⟨.hbm, 713, rfl⟩
abbrev main_v607 : Ref sig .tc := ⟨.hbm, 714, rfl⟩
abbrev main_v608 : Ref sig .tc := ⟨.hbm, 715, rfl⟩
abbrev main_v609 : Ref sig .tc := ⟨.hbm, 716, rfl⟩
abbrev main_v610 : Ref sig .tc := ⟨.hbm, 717, rfl⟩
abbrev main_c_98 : Ref sig .tc := ⟨.hbm, 718, rfl⟩
abbrev main_v611 : Ref sig .tc := ⟨.hbm, 719, rfl⟩
abbrev main_v612 : Ref sig .tc := ⟨.hbm, 720, rfl⟩
abbrev main_c_99 : Ref sig .tc := ⟨.hbm, 721, rfl⟩
abbrev main_v613 : Ref sig .tc := ⟨.hbm, 722, rfl⟩
abbrev main_v614 : Ref sig .tc := ⟨.hbm, 723, rfl⟩
abbrev main_v615 : Ref sig .tc := ⟨.hbm, 724, rfl⟩
abbrev main_v616 : Ref sig .tc := ⟨.hbm, 725, rfl⟩
abbrev main_v617 : Ref sig .tc := ⟨.hbm, 726, rfl⟩
abbrev main_c_100 : Ref sig .tc := ⟨.hbm, 727, rfl⟩
abbrev main_v618 : Ref sig .tc := ⟨.hbm, 728, rfl⟩
abbrev main_v619 : Ref sig .tc := ⟨.hbm, 729, rfl⟩
abbrev main_c_101 : Ref sig .tc := ⟨.hbm, 730, rfl⟩
abbrev main_v620 : Ref sig .tc := ⟨.hbm, 731, rfl⟩
abbrev main_v621 : Ref sig .tc := ⟨.hbm, 732, rfl⟩
abbrev main_v622 : Ref sig .tc := ⟨.hbm, 733, rfl⟩
abbrev main_v623 : Ref sig .tc := ⟨.hbm, 734, rfl⟩
abbrev main_v624 : Ref sig .tc := ⟨.hbm, 735, rfl⟩
abbrev main_c_102 : Ref sig .tc := ⟨.hbm, 736, rfl⟩
abbrev main_v625 : Ref sig .tc := ⟨.hbm, 737, rfl⟩
abbrev main_v626 : Ref sig .tc := ⟨.hbm, 738, rfl⟩
abbrev main_c_103 : Ref sig .tc := ⟨.hbm, 739, rfl⟩
abbrev main_v627 : Ref sig .tc := ⟨.hbm, 740, rfl⟩
abbrev main_v628 : Ref sig .tc := ⟨.hbm, 741, rfl⟩
abbrev main_v629 : Ref sig .tc := ⟨.hbm, 742, rfl⟩
abbrev main_v630 : Ref sig .tc := ⟨.hbm, 743, rfl⟩
abbrev main_v631 : Ref sig .tc := ⟨.hbm, 744, rfl⟩
abbrev main_v632 : Ref sig .tc := ⟨.hbm, 745, rfl⟩
abbrev main_v633 : Ref sig .tc := ⟨.hbm, 746, rfl⟩
abbrev main_v634 : Ref sig .tc := ⟨.hbm, 747, rfl⟩
abbrev main_v635 : Ref sig .tc := ⟨.hbm, 748, rfl⟩
abbrev main_v636 : Ref sig .tc := ⟨.hbm, 749, rfl⟩
abbrev main_c_104 : Ref sig .tc := ⟨.hbm, 750, rfl⟩
abbrev main_v637 : Ref sig .tc := ⟨.hbm, 751, rfl⟩
abbrev main_v638 : Ref sig .tc := ⟨.hbm, 752, rfl⟩
abbrev main_v639 : Ref sig .tc := ⟨.hbm, 753, rfl⟩
abbrev main_c_105 : Ref sig .tc := ⟨.hbm, 754, rfl⟩
abbrev main_v640 : Ref sig .tc := ⟨.hbm, 755, rfl⟩
abbrev main_v641 : Ref sig .tc := ⟨.hbm, 756, rfl⟩
abbrev main_c_106 : Ref sig .tc := ⟨.hbm, 757, rfl⟩
abbrev main_v642 : Ref sig .tc := ⟨.hbm, 758, rfl⟩
abbrev main_v643 : Ref sig .tc := ⟨.hbm, 759, rfl⟩
abbrev main_v644 : Ref sig .tc := ⟨.hbm, 760, rfl⟩
abbrev main_cst_107 : Ref sig .tc := ⟨.hbm, 761, rfl⟩
abbrev main_v645 : Ref sig .tc := ⟨.hbm, 762, rfl⟩
abbrev main_v646 : Ref sig .tc := ⟨.hbm, 763, rfl⟩
abbrev main_cst_108 : Ref sig .tc := ⟨.hbm, 764, rfl⟩
abbrev main_cst_109 : Ref sig .tc := ⟨.hbm, 765, rfl⟩
abbrev main_v647 : Ref sig .tc := ⟨.hbm, 766, rfl⟩
abbrev main_v648 : Ref sig .tc := ⟨.hbm, 767, rfl⟩
abbrev main_v649 : Ref sig .tc := ⟨.hbm, 768, rfl⟩
abbrev main_cst_110 : Ref sig .tc := ⟨.hbm, 769, rfl⟩
abbrev main_v650 : Ref sig .tc := ⟨.hbm, 770, rfl⟩
abbrev main_v651 : Ref sig .tc := ⟨.hbm, 771, rfl⟩
abbrev main_cst_111 : Ref sig .tc := ⟨.hbm, 772, rfl⟩
abbrev main_v652 : Ref sig .tc := ⟨.hbm, 773, rfl⟩
abbrev main_v653 : Ref sig .tc := ⟨.hbm, 774, rfl⟩
abbrev main_v654 : Ref sig .tc := ⟨.hbm, 775, rfl⟩
abbrev main_v655 : Ref sig .tc := ⟨.hbm, 776, rfl⟩
abbrev main_v656 : Ref sig .tc := ⟨.hbm, 777, rfl⟩
abbrev main_v657 : Ref sig .tc := ⟨.hbm, 778, rfl⟩
abbrev main_cst_112 : Ref sig .tc := ⟨.hbm, 779, rfl⟩
abbrev main_v658 : Ref sig .tc := ⟨.hbm, 780, rfl⟩
abbrev main_v659 : Ref sig .tc := ⟨.hbm, 781, rfl⟩
abbrev main_cst_113 : Ref sig .tc := ⟨.hbm, 782, rfl⟩
abbrev main_v660 : Ref sig .tc := ⟨.hbm, 783, rfl⟩
abbrev main_v661 : Ref sig .tc := ⟨.hbm, 784, rfl⟩
abbrev main_v662 : Ref sig .tc := ⟨.hbm, 785, rfl⟩
abbrev main_cst_114 : Ref sig .tc := ⟨.hbm, 786, rfl⟩
abbrev main_v663 : Ref sig .tc := ⟨.hbm, 787, rfl⟩
abbrev main_v664 : Ref sig .tc := ⟨.hbm, 788, rfl⟩
abbrev main_v665 : Ref sig .tc := ⟨.hbm, 789, rfl⟩
abbrev main_cst_115 : Ref sig .tc := ⟨.hbm, 790, rfl⟩
abbrev main_cst_116 : Ref sig .tc := ⟨.hbm, 791, rfl⟩
abbrev main_call2_v0 : Ref sig .tc := ⟨.hbm, 792, rfl⟩
abbrev main_call2_v1 : Ref sig .tc := ⟨.hbm, 793, rfl⟩
abbrev main_call2_v2 : Ref sig .tc := ⟨.hbm, 794, rfl⟩
abbrev main_call2_v3 : Ref sig .tc := ⟨.hbm, 795, rfl⟩
abbrev main_v666 : Ref sig .tc := ⟨.hbm, 796, rfl⟩
abbrev main_cst_117 : Ref sig .tc := ⟨.hbm, 797, rfl⟩
abbrev main_cst_118 : Ref sig .tc := ⟨.hbm, 798, rfl⟩
abbrev main_call3_v0 : Ref sig .tc := ⟨.hbm, 799, rfl⟩
abbrev main_call3_v1 : Ref sig .tc := ⟨.hbm, 800, rfl⟩
abbrev main_call3_v2 : Ref sig .tc := ⟨.hbm, 801, rfl⟩
abbrev main_call3_v3 : Ref sig .tc := ⟨.hbm, 802, rfl⟩
abbrev main_v667 : Ref sig .tc := ⟨.hbm, 803, rfl⟩
abbrev main_v668 : Ref sig .tc := ⟨.hbm, 804, rfl⟩
abbrev main_v669 : Ref sig .tc := ⟨.hbm, 805, rfl⟩
abbrev main_cst_119 : Ref sig .tc := ⟨.hbm, 806, rfl⟩
abbrev main_cst_120 : Ref sig .tc := ⟨.hbm, 807, rfl⟩
abbrev main_call4_v0 : Ref sig .tc := ⟨.hbm, 808, rfl⟩
abbrev main_call4_v1 : Ref sig .tc := ⟨.hbm, 809, rfl⟩
abbrev main_call4_v2 : Ref sig .tc := ⟨.hbm, 810, rfl⟩
abbrev main_call4_v3 : Ref sig .tc := ⟨.hbm, 811, rfl⟩
abbrev main_v670 : Ref sig .tc := ⟨.hbm, 812, rfl⟩
abbrev main_v671 : Ref sig .tc := ⟨.hbm, 813, rfl⟩
abbrev main_v672 : Ref sig .tc := ⟨.hbm, 814, rfl⟩
abbrev main_cst_121 : Ref sig .tc := ⟨.hbm, 815, rfl⟩
abbrev main_cst_122 : Ref sig .tc := ⟨.hbm, 816, rfl⟩
abbrev main_call5_v0 : Ref sig .tc := ⟨.hbm, 817, rfl⟩
abbrev main_call5_v1 : Ref sig .tc := ⟨.hbm, 818, rfl⟩
abbrev main_call5_v2 : Ref sig .tc := ⟨.hbm, 819, rfl⟩
abbrev main_call5_v3 : Ref sig .tc := ⟨.hbm, 820, rfl⟩
abbrev main_v673 : Ref sig .tc := ⟨.hbm, 821, rfl⟩
abbrev main_v674 : Ref sig .tc := ⟨.hbm, 822, rfl⟩
abbrev main_v675 : Ref sig .tc := ⟨.hbm, 823, rfl⟩
abbrev main_cst_123 : Ref sig .tc := ⟨.hbm, 824, rfl⟩
abbrev main_cst_124 : Ref sig .tc := ⟨.hbm, 825, rfl⟩
abbrev main_call6_v0 : Ref sig .tc := ⟨.hbm, 826, rfl⟩
abbrev main_call6_v1 : Ref sig .tc := ⟨.hbm, 827, rfl⟩
abbrev main_call6_v2 : Ref sig .tc := ⟨.hbm, 828, rfl⟩
abbrev main_call6_v3 : Ref sig .tc := ⟨.hbm, 829, rfl⟩
abbrev main_v676 : Ref sig .tc := ⟨.hbm, 830, rfl⟩
abbrev main_v677 : Ref sig .tc := ⟨.hbm, 831, rfl⟩
abbrev main_v678 : Ref sig .tc := ⟨.hbm, 832, rfl⟩
abbrev main_cst_125 : Ref sig .tc := ⟨.hbm, 833, rfl⟩
abbrev main_cst_126 : Ref sig .tc := ⟨.hbm, 834, rfl⟩
abbrev main_call7_v0 : Ref sig .tc := ⟨.hbm, 835, rfl⟩
abbrev main_call7_v1 : Ref sig .tc := ⟨.hbm, 836, rfl⟩
abbrev main_call7_v2 : Ref sig .tc := ⟨.hbm, 837, rfl⟩
abbrev main_call7_v3 : Ref sig .tc := ⟨.hbm, 838, rfl⟩
abbrev main_v679 : Ref sig .tc := ⟨.hbm, 839, rfl⟩
abbrev main_v680 : Ref sig .tc := ⟨.hbm, 840, rfl⟩
abbrev main_v681 : Ref sig .tc := ⟨.hbm, 841, rfl⟩
abbrev main_cst_127 : Ref sig .tc := ⟨.hbm, 842, rfl⟩
abbrev main_cst_128 : Ref sig .tc := ⟨.hbm, 843, rfl⟩
abbrev main_call8_v0 : Ref sig .tc := ⟨.hbm, 844, rfl⟩
abbrev main_call8_v1 : Ref sig .tc := ⟨.hbm, 845, rfl⟩
abbrev main_call8_v2 : Ref sig .tc := ⟨.hbm, 846, rfl⟩
abbrev main_call8_v3 : Ref sig .tc := ⟨.hbm, 847, rfl⟩
abbrev main_v682 : Ref sig .tc := ⟨.hbm, 848, rfl⟩
abbrev main_v683 : Ref sig .tc := ⟨.hbm, 849, rfl⟩
abbrev main_v684 : Ref sig .tc := ⟨.hbm, 850, rfl⟩
abbrev main_cst_129 : Ref sig .tc := ⟨.hbm, 851, rfl⟩
abbrev main_cst_130 : Ref sig .tc := ⟨.hbm, 852, rfl⟩
abbrev main_call9_v0 : Ref sig .tc := ⟨.hbm, 853, rfl⟩
abbrev main_call9_v1 : Ref sig .tc := ⟨.hbm, 854, rfl⟩
abbrev main_call9_v2 : Ref sig .tc := ⟨.hbm, 855, rfl⟩
abbrev main_call9_v3 : Ref sig .tc := ⟨.hbm, 856, rfl⟩
abbrev main_v685 : Ref sig .tc := ⟨.hbm, 857, rfl⟩
abbrev main_v686 : Ref sig .tc := ⟨.hbm, 858, rfl⟩
abbrev main_v687 : Ref sig .tc := ⟨.hbm, 859, rfl⟩
abbrev main_cst_131 : Ref sig .tc := ⟨.hbm, 860, rfl⟩
abbrev main_cst_132 : Ref sig .tc := ⟨.hbm, 861, rfl⟩
abbrev main_call10_v0 : Ref sig .tc := ⟨.hbm, 862, rfl⟩
abbrev main_call10_v1 : Ref sig .tc := ⟨.hbm, 863, rfl⟩
abbrev main_call10_v2 : Ref sig .tc := ⟨.hbm, 864, rfl⟩
abbrev main_call10_v3 : Ref sig .tc := ⟨.hbm, 865, rfl⟩
abbrev main_v688 : Ref sig .tc := ⟨.hbm, 866, rfl⟩
abbrev main_v689 : Ref sig .tc := ⟨.hbm, 867, rfl⟩
abbrev main_v690 : Ref sig .tc := ⟨.hbm, 868, rfl⟩
abbrev main_v691 : Ref sig .tc := ⟨.hbm, 869, rfl⟩
abbrev main_cst_133 : Ref sig .tc := ⟨.hbm, 870, rfl⟩
abbrev main_v692 : Ref sig .tc := ⟨.hbm, 871, rfl⟩
abbrev main_v693 : Ref sig .tc := ⟨.hbm, 872, rfl⟩
abbrev main_cst_134 : Ref sig .tc := ⟨.hbm, 873, rfl⟩
abbrev main_v694 : Ref sig .tc := ⟨.hbm, 874, rfl⟩
abbrev main_v695 : Ref sig .tc := ⟨.hbm, 875, rfl⟩
abbrev main_v696 : Ref sig .tc := ⟨.hbm, 876, rfl⟩
abbrev main_v697 : Ref sig .tc := ⟨.hbm, 877, rfl⟩
abbrev main_cst_135 : Ref sig .tc := ⟨.hbm, 878, rfl⟩
abbrev main_v698 : Ref sig .tc := ⟨.hbm, 879, rfl⟩
abbrev main_v699 : Ref sig .tc := ⟨.hbm, 880, rfl⟩
abbrev main_v700 : Ref sig .tc := ⟨.hbm, 881, rfl⟩
abbrev main_v701 : Ref sig .tc := ⟨.hbm, 882, rfl⟩
abbrev main_v702 : Ref sig .tc := ⟨.hbm, 883, rfl⟩
abbrev main_v703 : Ref sig .tc := ⟨.hbm, 884, rfl⟩
abbrev main_v704 : Ref sig .tc := ⟨.hbm, 885, rfl⟩
abbrev main_c_136 : Ref sig .tc := ⟨.hbm, 886, rfl⟩
abbrev main_v705 : Ref sig .tc := ⟨.hbm, 887, rfl⟩
abbrev main_v706 : Ref sig .tc := ⟨.hbm, 888, rfl⟩
abbrev main_v707 : Ref sig .tc := ⟨.hbm, 889, rfl⟩
abbrev main_v708 : Ref sig .tc := ⟨.hbm, 890, rfl⟩
abbrev main_v709 : Ref sig .tc := ⟨.hbm, 891, rfl⟩
abbrev main_v710 : Ref sig .tc := ⟨.hbm, 892, rfl⟩
abbrev main_v711 : Ref sig .tc := ⟨.hbm, 893, rfl⟩
abbrev main_call12_v0 : Ref sig .tc := ⟨.hbm, 894, rfl⟩
abbrev main_v712 : Ref sig .tc := ⟨.hbm, 895, rfl⟩

abbrev nD : Nat := 1
abbrev τ : Topo := Topo.v7x

variable {F : FTy → Type} [FloatOps F]
-- ==== Proof.Mix.Cipher.lean ====
/-
  The twenty rounds of Threefry-2x32 on one pair of words, free of any array: what the kernel's
  block and the reference compute at each element.
-/
module

public import Idealize.ShloMosaic.PureOps

@[expose] public section

namespace Cert.Mix

open Idealize.ShloMosaic

/-- A pair of 32-bit words, the cipher's state. -/
abbrev Pair := BitVec 32 × BitVec 32

/-- `x` turned left by `d` places; `e` is `32 - d`. -/
def turn (d e : BitVec 32) (x : BitVec 32) : BitVec 32 := (x <<< d) ||| (x >>> e)

/-- One round: the first word becomes the sum, the second is turned and joined with the sum. -/
def mix (d e : BitVec 32) (s : Pair) : Pair := (s.1 + s.2, (s.1 + s.2) ^^^ turn d e s.2)

/-- Adding the key after four rounds, and the number `n` of the injection. -/
def inject (a b n : BitVec 32) (s : Pair) : Pair := (s.1 + a, s.2 + b + n)

/-- The four rounds with turns 13, 15, 26, 6. -/
def odd (s : Pair) : Pair := mix 6 26 (mix 26 6 (mix 15 17 (mix 13 19 s)))

/-- The four rounds with turns 17, 29, 16, 24. -/
def even (s : Pair) : Pair := mix 24 8 (mix 16 16 (mix 29 3 (mix 17 15 s)))

/-- The third key word. -/
def third (a b : BitVec 32) : BitVec 32 := a ^^^ b ^^^ 466688986

/-- The cipher under the key `(a, b)` on the pair `(x, y)`. -/
def threefry (a b x y : BitVec 32) : Pair :=
  inject (third a b) a 5 (odd (inject b (third a b) 4 (even (inject a b 3 (odd
    (inject (third a b) a 2 (even (inject b (third a b) 1 (odd (x + a, y + b))))))))))

/-- The random word number `n` under the key `(a, b)`. -/
def word (a b n : BitVec 32) : BitVec 32 := (threefry a b 0 n).1 ^^^ (threefry a b 0 n).2

/-- The bit pattern of a number from 1 up to 2 made of a word's upper 23 bits. -/
def mantissa (w : BitVec 32) : BitVec 32 := (w >>> (9 : BitVec 32)) ||| 1065353216

/-- The keys split from seed 42: the words the kernel names. -/
theorem split_first : threefry 0 42 0 0 = (1832780943, 270669613) := by decide

/-- The second of them. -/
theorem split_second : threefry 0 42 0 1 = (64467757, 2916123636) := by decide

end Cert.Mix

end
-- ==== Proof.Mix.RefWord.lean ====
/-
  The integer half of the reference, read at one element: the cipher of Proof/Mix/Cipher.lean, first to split the
  seed's key in two and then to draw the words.
-/
module

public import proofs.«01_k».proof.Proof.Gen.ReferenceIdeal.Read
public import proofs.«01_k».proof.Proof.Mix.Cipher
public import Idealize.ShloMosaic.Lib.Pointwise

@[expose] public section

noncomputable section

namespace Cert.Mix.Ref

open Idealize.ShloMosaic Cert.ReferenceIdeal Cert.ReferenceIdeal.Gen Cert.ReferenceIdeal.Read

variable {F : FTy → Type} [FloatOps F]

/-! ## The two keys -/

/-- The key's split: its first four rounds. -/
theorem split1 (p : S2.Idx) : (val_main_v44 (F := F) p, val_main_v48 (F := F) p)
    = inject 42 (third 0 42) 1 (odd (0 + 0, BitVec.ofNat 32 (p 0).val + 42)) := rfl

/-- Its second four rounds. -/
theorem split2 (p : S2.Idx) : (val_main_v78 (F := F) p, val_main_v82 (F := F) p)
    = inject (third 0 42) 0 2 (even (val_main_v44 (F := F) p, val_main_v48 (F := F) p)) := rfl

/-- Its third four rounds. -/
theorem split3 (p : S2.Idx) : (val_main_v112 (F := F) p, val_main_v116 (F := F) p)
    = inject 0 42 3 (odd (val_main_v78 (F := F) p, val_main_v82 (F := F) p)) := rfl

/-- Its fourth four rounds. -/
theorem split4 (p : S2.Idx) : (val_main_v146 (F := F) p, val_main_v150 (F := F) p)
    = inject 42 (third 0 42) 4 (even (val_main_v112 (F := F) p, val_main_v116 (F := F) p)) := rfl

/-- Its last four rounds. -/
theorem split5 (p : S2.Idx) : (val_main_v180 (F := F) p, val_main_v184 (F := F) p)
    = inject (third 0 42) 0 5 (odd (val_main_v146 (F := F) p, val_main_v150 (F := F) p)) := rfl

/-- The words of component `c`'s key. -/
theorem split (c : Fin 2) : (val_main_v180 (F := F) (ix1 c), val_main_v184 (F := F) (ix1 c))
    = threefry 0 42 0 (BitVec.ofNat 32 c.val) := by
  rw [split5, split4, split3, split2, split1]
  rfl

/-- The keys as the drawing stage reads them. -/
theorem key_first (c : Fin 2) : val_main_v439 (F := F) (ix1 c) = (threefry 0 42 0 (BitVec.ofNat 32 c.val)).1 := by
  rw [val_main_v439_apply, val_main_v438_apply, ← split (F := F) c]
  pointwise [val_main_v187, val_main_v185, val_main_v186]

/-- The second word of each component's key. -/
theorem key_second (c : Fin 2) : val_main_v441 (F := F) (ix1 c) = (threefry 0 42 0 (BitVec.ofNat 32 c.val)).2 := by
  rw [val_main_v441_apply, val_main_v440_apply, ← split (F := F) c]
  pointwise [val_main_v187, val_main_v185, val_main_v186]

/-- The third word of each component's key. -/
theorem key_third (c : Fin 2) :
    val_main_v448 (F := F) (ix1 c) = third (val_main_v439 (F := F) (ix1 c)) (val_main_v441 (F := F) (ix1 c)) := rfl

/-! ## The words drawn -/

/-- A key word laid along the whole array depends on the component alone. -/
theorem spread (k : IVec S2 32) (p : S2x16384x16.Idx) :
    broadcastInDim S2x16384x16 ![0, 1, 2] bcast_S2x1x1_S2x16384x16_0_1_2
      (broadcastInDim S2x1x1 ![0] bcast_S2_S2x1x1_0 k) p = k (ix1 (p 0)) := by
  rw [broadcastInDim_apply _ bcast_S2x1x1_S2x16384x16_0_1_2 _ p (idx_main_v488 p) (fun a => match a with
    | ⟨0, _⟩ => rfl | ⟨1, _⟩ => rfl | ⟨2, _⟩ => rfl)]
  refine broadcastInDim_apply _ bcast_S2_S2x1x1_0 _ _ _ (fun a => match a with
    | ⟨0, _⟩ => rfl)

/-- The element's number in the result is the counter. -/
theorem counter (c : Fin 2) (r : Fin 16384) (j : Fin 16) :
    val_main_v456 (F := F) (ix3 c r j) = BitVec.ofNat 32 (r.val * 16 + j.val) := by
  rw [val_main_v456_apply, val_main_v454_apply, val_main_v436_apply, val_main_v435_apply]
  rfl

/-- The first group of four rounds. -/
theorem first (p : S2x16384x16.Idx) :
    (val_main_v489 (F := F) p, val_main_v494 (F := F) p)
      = inject (val_main_v441 (F := F) (ix1 (p 0))) (val_main_v448 (F := F) (ix1 (p 0))) 1
          (odd (0 + val_main_v439 (F := F) (ix1 (p 0)), val_main_v456 (F := F) p + val_main_v441 (F := F) (ix1 (p 0)))) := by
  rw [← spread (val_main_v448 (F := F)), ← spread (val_main_v439 (F := F)), ← spread (val_main_v441 (F := F))]
  rfl

/-- The second group. -/
theorem second (p : S2x16384x16.Idx) :
    (val_main_v525 (F := F) p, val_main_v530 (F := F) p)
      = inject (val_main_v448 (F := F) (ix1 (p 0))) (val_main_v439 (F := F) (ix1 (p 0))) 2
          (even (val_main_v489 (F := F) p, val_main_v494 (F := F) p)) := by
  rw [← spread (val_main_v448 (F := F)), ← spread (val_main_v439 (F := F))]
  rfl

/-- The third group. -/
theorem thirdGroup (p : S2x16384x16.Idx) :
    (val_main_v561 (F := F) p, val_main_v566 (F := F) p)
      = inject (val_main_v439 (F := F) (ix1 (p 0))) (val_main_v441 (F := F) (ix1 (p 0))) 3
          (odd (val_main_v525 (F := F) p, val_main_v530 (F := F) p)) := by
  rw [← spread (val_main_v439 (F := F)), ← spread (val_main_v441 (F := F))]
  rfl

/-- The fourth group. -/
theorem fourth (p : S2x16384x16.Idx) :
    (val_main_v597 (F := F) p, val_main_v602 (F := F) p)
      = inject (val_main_v441 (F := F) (ix1 (p 0))) (val_main_v448 (F := F) (ix1 (p 0))) 4
          (even (val_main_v561 (F := F) p, val_main_v566 (F := F) p)) := by
  rw [← spread (val_main_v441 (F := F)), ← spread (val_main_v448 (F := F))]
  rfl

/-- The last group. -/
theorem fifth (p : S2x16384x16.Idx) :
    (val_main_v633 (F := F) p, val_main_v638 (F := F) p)
      = inject (val_main_v448 (F := F) (ix1 (p 0))) (val_main_v439 (F := F) (ix1 (p 0))) 5
          (odd (val_main_v597 (F := F) p, val_main_v602 (F := F) p)) := by
  rw [← spread (val_main_v448 (F := F)), ← spread (val_main_v439 (F := F))]
  rfl

/-- The number drawn for component `c` at an element, before it is made normal. -/
theorem unit_apply (c : Fin 2) (r : Fin 16384) (j : Fin 16) :
    val_main_v646 (F := F) (ix3 c r j)
      = FloatOps.subf (FloatOps.ofBits .f32 (mantissa (word (threefry 0 42 0 (BitVec.ofNat 32 c.val)).1
          (threefry 0 42 0 (BitVec.ofNat 32 c.val)).2 (BitVec.ofNat 32 (r.val * 16 + j.val)))))
          (FloatOps.ofBits .f32 0x3F800000#32) := by
  have h : (val_main_v633 (F := F) (ix3 c r j), val_main_v638 (F := F) (ix3 c r j))
      = threefry (val_main_v439 (F := F) (ix1 c)) (val_main_v441 (F := F) (ix1 c)) 0 (BitVec.ofNat 32 (r.val * 16 + j.val)) := by
    rw [fifth, fourth, thirdGroup, second, first, counter]
    change inject (val_main_v448 (F := F) (ix1 c)) (val_main_v439 (F := F) (ix1 c)) 5 _ = _
    rw [key_third]
    rfl
  rw [key_first, key_second] at h
  unfold word
  rw [← h]
  rfl

end Cert.Mix.Ref

end
-- ==== Proof.Mix.Normal.lean ====
/-
  From a number of the unit interval to a standard normal: the kernel's formula and the reference's,
  each as it is written, and their equality over the extended reals.
-/
module

public import Idealize.ShloMosaic.PureOps
public import Idealize.ShloMosaic.PureOps.Ideal.Laws
public import Idealize.ShloMosaic.Lib.IdealHost
public import proofs.«01_k».proof.Proof.Mix.Cipher

@[expose] public section

noncomputable section

namespace Cert.Mix

open Idealize.ShloMosaic

section Formulas

variable {F : FTy → Type} [FloatOps F]

/-- A printed constant. -/
abbrev lit (b : BitVec 32) : F .f32 := FloatOps.ofBits .f32 b

/-- The coefficients of the two polynomials in pairs, the highest power first: left those for the
    middle of the interval, right those for its ends. -/
def coefs : List (BitVec 32 × BitVec 32) :=
  [(0x32F16588, 0xB951F09B), (0x34B84B36, 0x38D3B56B), (0xB66C7357, 0x3AB0DC72),
   (0xB6935AC1, 0xBB70BDE7), (0x396532DB, 0x3BBC127B), (0xBAA45408, 0xBBF9C5D7),
   (0xBB88E4EF, 0x3C1AA57E), (0x3E7C8F63, 0x3F8036DB), (0x3FC02E2F, 0x40354F7E#32)]

/-- A polynomial by Horner's rule, the coefficients given as numbers. -/
def horner (t : F .f32) : List (F .f32) → F .f32
  | [] => lit 0#32
  | c :: cs => cs.foldl (fun p d => FloatOps.addf d (FloatOps.mulf p t)) c

/-- The number of the open interval from -1 to 1 that a number of the unit interval is taken to. -/
def stretch (u : F .f32) : F .f32 :=
  FloatOps.maximumf (lit 0xBF7FFFFF#32)
    (FloatOps.addf (FloatOps.mulf u (FloatOps.subf (lit 0x3F800000#32) (lit 0xBF7FFFFF#32))) (lit 0xBF7FFFFF#32))

/-- The kernel's `-log (1 - x²)`, by the two factors. -/
def kernelW (x : F .f32) : F .f32 :=
  FloatOps.subf (lit 0#32) (FloatOps.log (FloatOps.mulf (FloatOps.subf (lit 0x3F800000#32) x)
    (FloatOps.addf (lit 0x3F800000#32) x)))

/-- The kernel's inverse error function: both polynomials, then the choice. -/
def kernelErfInv (x : F .f32) : F .f32 :=
  FloatOps.mulf
    (Scalar.select (FloatOps.cmpf .olt (kernelW x) (lit 0x40A00000#32))
      (horner (FloatOps.subf (kernelW x) (lit 0x40200000#32)) (coefs.map fun c => lit c.1))
      (horner (FloatOps.subf (FloatOps.sqrt (kernelW x)) (lit 0x40400000#32)) (coefs.map fun c => lit c.2))) x

/-- The kernel's normal number. -/
def kernelNormal (u : F .f32) : F .f32 :=
  FloatOps.mulf (lit 0x3FB504F3#32) (kernelErfInv (stretch u))

/-- The reference's `-log (1 - x²)`. -/
def refW (x : F .f32) : F .f32 :=
  FloatOps.hostNegf (FloatOps.hostUnary .log1p (FloatOps.mulf (FloatOps.hostNegf x) x))

/-- Whether the reference takes the middle polynomial. -/
def refMiddle (x : F .f32) : BitVec 1 := FloatOps.cmpf .olt (refW x) (lit 0x40A00000#32)

/-- The reference's inverse error function: the choice in the argument and in each coefficient. -/
def refErfInv (x : F .f32) : F .f32 :=
  Scalar.select (FloatOps.cmpf .oeq (FloatOps.hostAbsf x) (lit 0x3F800000#32))
    (FloatOps.mulf x (lit 0x7F800000#32))
    (FloatOps.mulf
      (horner (Scalar.select (refMiddle x) (FloatOps.subf (refW x) (lit 0x40200000#32))
          (FloatOps.subf (FloatOps.hostUnary .sqrt (refW x)) (lit 0x40400000#32)))
        (coefs.map fun c => Scalar.select (refMiddle x) (lit c.1) (lit c.2))) x)

/-- The reference's normal number. -/
def refNormal (u : F .f32) : F .f32 :=
  FloatOps.mulf (lit 0x3FB504F3#32) (refErfInv (stretch u))

end Formulas

/-! ## Over the extended reals -/

/-- The lower end of the open interval, just above -1. -/
theorem ofBits_lo : Ideal.ofBits .f32 0xBF7FFFFF#32 = ((-(16777215 / 16777216) : ℝ) : EReal) := by
  rw [EReal.coe_neg]
  simp [Ideal.ofBits, Ideal.ieee, -EReal.coe_mul]; norm_num

/-- The pattern as a number: the exponent of one, and the word's upper 23 bits. -/
theorem toNat_mantissa (w : BitVec 32) : (mantissa w).toNat = 2 ^ 23 * 127 + w.toNat / 512 := by
  have hw := w.isLt
  have h : (mantissa w).toNat = w.toNat / 512 ||| 2 ^ 23 * 127 := by
    unfold mantissa
    rw [BitVec.toNat_or]
    change w.toNat >>> 9 ||| _ = _
    rw [Nat.shiftRight_eq_div_pow]
    rfl
  rw [h, Nat.or_comm, ← Nat.two_pow_add_eq_or_of_lt (by omega)]

/-- The number made of a word's upper bits lies from 1 up to 2. -/
theorem ofBits_mantissa (w : BitVec 32) :
    ∃ r : ℝ, 1 ≤ r ∧ r < 2 ∧ Ideal.ofBits .f32 (mantissa w) = (r : EReal) := by
  have hw := w.isLt
  have hn := toNat_mantissa w
  have hs : (mantissa w).extractLsb' 31 1 = 0#1 := by
    apply BitVec.eq_of_toNat_eq
    rw [BitVec.extractLsb'_toNat, hn, Nat.shiftRight_eq_div_pow]
    simp only [BitVec.toNat_ofNat]
    omega
  have he : ((mantissa w).extractLsb' 23 8).toNat = 127 := by
    rw [BitVec.extractLsb'_toNat, hn, Nat.shiftRight_eq_div_pow]
    omega
  have hf : ((mantissa w).extractLsb' 0 23).toNat = w.toNat / 512 := by
    rw [BitVec.extractLsb'_toNat, hn, Nat.shiftRight_zero]
    omega
  have hlt : ((w.toNat / 512 : ℕ) : ℝ) < 2 ^ 23 := by
    exact_mod_cast (by omega : w.toNat / 512 < 2 ^ 23)
  have hge : (0 : ℝ) ≤ ((w.toNat / 512 : ℕ) : ℝ) := Nat.cast_nonneg _
  refine ⟨(2 ^ 23 + ((w.toNat / 512 : ℕ) : ℝ)) * 2⁻¹ ^ 23, ?_, ?_, ?_⟩
  · nlinarith
  · nlinarith
  · simp only [Ideal.ofBits, Ideal.ieee, hs, he, hf]
    norm_num [-EReal.coe_mul, -EReal.coe_neg, -EReal.coe_sub, -EReal.coe_add]

/-- On the unit interval the stretched number is a real strictly between -1 and 1. -/
theorem stretch_real (r : ℝ) (h0 : 0 ≤ r) (h1 : r < 1) :
    ∃ x : ℝ, -1 < x ∧ x < 1 ∧ stretch (F := Ideal) (r : EReal) = (x : EReal) := by
  refine ⟨max (-(16777215 / 16777216)) (r * (1 - -(16777215 / 16777216)) + -(16777215 / 16777216)), ?_, ?_, ?_⟩
  · exact lt_of_lt_of_le (by norm_num) (le_max_left _ _)
  · apply max_lt
    · norm_num
    · nlinarith
  · simp only [stretch, lit, Ideal.ofBits_def, ofBits_lo, Ideal.ofBits_one_f32, Ideal.addf_def,
      Ideal.mulf_def, Ideal.subf_def, Ideal.maximumf_def]
    rw [EReal.coe_strictMono.monotone.map_max]
    norm_cast

/-- The two forms of `-log (1 - x²)` agree at a real. -/
theorem w_eq (x : ℝ) : refW (F := Ideal) (x : EReal) = kernelW (F := Ideal) (x : EReal) := by
  simp only [refW, kernelW, lit, Ideal.ofBits_def, Ideal.subf_def,
    Ideal.addf_def, Ideal.mulf_def, Ideal.log_def, Ideal.hostUnary_log1p_def, Ideal.log1p]
  rw [Ideal.ofBits_zero_f32, Ideal.ofBits_one_f32, zero_sub]
  have h : (1 : EReal) + -(x : EReal) * (x : EReal) = (1 - (x : EReal)) * (1 + (x : EReal)) := by
    have hr : 1 + -x * x = (1 - x) * (1 + x) := by ring
    exact_mod_cast congrArg (fun r : ℝ => (r : EReal)) hr
  exact congrArg (fun e => -Ideal.log e) h

/-- The two inverse error functions agree strictly between -1 and 1. -/
theorem erfInv_eq (x : ℝ) (h0 : -1 < x) (h1 : x < 1) :
    refErfInv (F := Ideal) (x : EReal) = kernelErfInv (F := Ideal) (x : EReal) := by
  have hne : FloatOps.cmpf (F := Ideal) (φ := .f32) .oeq (FloatOps.hostAbsf (F := Ideal) (φ := .f32) (x : EReal)) (lit 0x3F800000#32) = 0#1 := by
    change BitVec.ofBool (decide (max (x : EReal) (-(x : EReal)) = Ideal.ofBits .f32 0x3F800000#32)) = 0#1
    rw [Ideal.ofBits_one_f32, decide_eq_false]
    · rfl
    · have hm : max (x : EReal) (-(x : EReal)) < 1 := by
        apply max_lt
        · exact_mod_cast h1
        · exact_mod_cast (by linarith : -x < 1)
      exact hm.ne
  unfold refErfInv refMiddle kernelErfInv
  rw [hne, w_eq]
  generalize FloatOps.cmpf (F := Ideal) (φ := .f32) .olt (kernelW (F := Ideal) (x : EReal)) (lit 0x40A00000#32) = b
  rcases BitVec.eq_zero_or_eq_one b with rfl | rfl <;> rfl

/-- The two normal numbers agree on the unit interval. -/
theorem normal_eq (r : ℝ) (h0 : 0 ≤ r) (h1 : r < 1) :
    refNormal (F := Ideal) (r : EReal) = kernelNormal (F := Ideal) (r : EReal) := by
  obtain ⟨x, hx0, hx1, hx⟩ := stretch_real r h0 h1
  rw [refNormal, kernelNormal, hx, erfInv_eq x hx0 hx1]

/-- The number of the unit interval made of a word's upper bits. -/
def unitOf (w : BitVec 32) : Ideal .f32 :=
  FloatOps.subf (lit (mantissa w)) (lit 0x3F800000#32)

/-- The two normal numbers agree at every word. -/
theorem normal_unitOf (w : BitVec 32) :
    refNormal (F := Ideal) (unitOf w) = kernelNormal (F := Ideal) (unitOf w) := by
  obtain ⟨r, h1, h2, h⟩ := ofBits_mantissa w
  have hu : unitOf w = ((r - 1 : ℝ) : EReal) := by
    simp only [unitOf, lit, Ideal.ofBits_def, h, Ideal.ofBits_one_f32, Ideal.subf_def]
    norm_cast
  rw [hu]
  exact normal_eq (r - 1) (by linarith) (by linarith)

/-- The random normal number `n` of the stream under the key `(a, b)`. -/
def normal (a b n : BitVec 32) : Ideal .f32 := kernelNormal (unitOf (word a b n))

end Cert.Mix

end
-- ==== Proof.Mix.RefNormal.lean ====
/-
  The normal numbers the reference draws, at one element over the extended reals.
-/
module

public import proofs.«01_k».proof.Proof.Mix.RefWord
public import proofs.«01_k».proof.Proof.Mix.Normal

@[expose] public section

noncomputable section

namespace Cert.Mix.Ref

open Idealize.ShloMosaic Cert.ReferenceIdeal Cert.ReferenceIdeal.Gen Cert.ReferenceIdeal.Read

/-- The reference's clamped argument is the stretched number. -/
theorem stretch_apply (p : S2x16384x16.Idx) :
    (val_main_v653 (F := Ideal) p : Ideal .f32) = stretch (F := Ideal) (val_main_v646 (F := Ideal) p) := rfl

/-- The reference's logarithm at an element. -/
theorem w_apply (p : S2x16384x16.Idx) :
    (val_main_v657 (F := Ideal) p : Ideal .f32) = refW (F := Ideal) (val_main_v653 (F := Ideal) p) := rfl

/-- Whether the reference takes the middle polynomial at an element. -/
theorem middle_apply (p : S2x16384x16.Idx) :
    val_main_v659 (F := Ideal) p
      = FloatOps.cmpf (F := Ideal) .olt (val_main_v657 (F := Ideal) p : Ideal .f32) (lit 0x40A00000#32) := rfl

/-- The argument of the chosen polynomial at an element. -/
theorem argument_apply (p : S2x16384x16.Idx) :
    (val_main_v665 (F := Ideal) p : Ideal .f32)
      = Scalar.select (val_main_v659 (F := Ideal) p)
          (FloatOps.subf (F := Ideal) (val_main_v657 (F := Ideal) p : Ideal .f32) (lit 0x40200000#32))
          (FloatOps.subf (F := Ideal) (FloatOps.hostUnary .sqrt (val_main_v657 (F := Ideal) p : Ideal .f32)) (lit 0x40400000#32)) := rfl

/-- The polynomial with the chosen coefficients. -/
theorem polynomial_apply (p : S2x16384x16.Idx) :
    (val_main_v690 (F := Ideal) p : Ideal .f32)
      = horner (F := Ideal) (val_main_v665 (F := Ideal) p)
          (coefs.map fun c => Scalar.select (val_main_v659 (F := Ideal) p) (lit c.1 : Ideal .f32) (lit c.2)) := rfl

/-- The inverse error function at an element. -/
theorem erfInv_apply (p : S2x16384x16.Idx) :
    (val_main_v697 (F := Ideal) p : Ideal .f32) = refErfInv (F := Ideal) (val_main_v653 (F := Ideal) p) := by
  unfold refErfInv refMiddle
  rw [← w_apply, ← middle_apply, ← argument_apply, ← polynomial_apply]
  rfl

/-- The normal number at an element. -/
theorem normal_apply (p : S2x16384x16.Idx) :
    (val_main_v699 (F := Ideal) p : Ideal .f32) = refNormal (F := Ideal) (val_main_v646 (F := Ideal) p) := by
  unfold refNormal
  rw [← stretch_apply, ← erfInv_apply]
  rfl

/-- The normal number of component `c` at row `r` and place `j`. -/
theorem draw (c : Fin 2) (r : Fin 16384) (j : Fin 16) :
    (val_main_v699 (F := Ideal) (ix3 c r j) : Ideal .f32)
      = normal (threefry 0 42 0 (BitVec.ofNat 32 c.val)).1 (threefry 0 42 0 (BitVec.ofNat 32 c.val)).2
          (BitVec.ofNat 32 (r.val * 16 + j.val)) := by
  rw [normal_apply, unit_apply]
  exact normal_unitOf _

/-- With the keys written out. -/
theorem draw_first (r : Fin 16384) (j : Fin 16) :
    (val_main_v699 (F := Ideal) (ix3 0 r j) : Ideal .f32)
      = normal 1832780943#32 270669613#32 (BitVec.ofNat 32 (r.val * 16 + j.val)) := by
  refine (draw 0 r j).trans ?_
  change normal (threefry 0 42 0 0).1 (threefry 0 42 0 0).2 _ = _
  rw [split_first]
  rfl

/-- The second component's, with its key written out. -/
theorem draw_second (r : Fin 16384) (j : Fin 16) :
    (val_main_v699 (F := Ideal) (ix3 1 r j) : Ideal .f32)
      = normal 64467757#32 2916123636#32 (BitVec.ofNat 32 (r.val * 16 + j.val)) := by
  refine (draw 1 r j).trans ?_
  change normal (threefry 0 42 0 1).1 (threefry 0 42 0 1).2 _ = _
  rw [split_second]
  rfl

end Cert.Mix.Ref

end
-- ==== Proof.Mix.RefFactor.lean ====
/-
  The factor of the covariances in the reference, when both covariances are the identity: it is the identity too.
  The reference works a column at a time; one step is treated once, for any column, and used sixteen times.
-/
module

public import proofs.«01_k».proof.Proof.Gen.ReferenceIdeal.Read
public import Idealize.ShloMosaic.PureOps.Ideal.Laws
public import Idealize.ShloMosaic.Lib.IdealHost
public import Idealize.ShloMosaic.Lib.Pointwise

@[expose] public section

noncomputable section

namespace Cert.Mix.Ref

open Idealize.ShloMosaic Cert.ReferenceIdeal Cert.ReferenceIdeal.Gen Cert.ReferenceIdeal.Read

/-- Column `k` of the factor, from what is left of the matrices: the column over the root of its diagonal. -/
def column (k : Nat) (M : FVec Ideal S2x16x16 .f32) (h : S2x16x16.Slices ![0, 0, k] S2x16x1)
    (h' : S2x16x16.Slices ![0, k, k] S2x1x1) : FVec Ideal S2x16 .f32 :=
  Host.divf (shapeCast S2x16 (extractStridedSlice S2x16x1 ![0, 0, k] M h) shapeCasts_S2x16x1_S2x16)
    (broadcastInDim S2x16 ![0, 1] bcast_S2x1_S2x16_0_1 (broadcastInDim S2x1 ![0] bcast_S2_S2x1_0
      (Host.sqrt (shapeCast S2 (extractStridedSlice S2x1x1 ![0, k, k] M h') shapeCasts_S2x1x1_S2))))

/-- What is left after a column: its products with itself are taken away. -/
def rest (M : FVec Ideal S2x16x16 .f32) (C : FVec Ideal S2x16 .f32) : FVec Ideal S2x16x16 .f32 :=
  subf M (mulf
    (broadcastInDim S2x16x16 ![0, 1, 2] bcast_S2x16x1_S2x16x16_0_1_2 (broadcastInDim S2x16x1 ![0, 1] bcast_S2x16_S2x16x1_0_1 C))
    (broadcastInDim S2x16x16 ![0, 1, 2] bcast_S2x1x16_S2x16x16_0_1_2 (broadcastInDim S2x1x16 ![0, 2] bcast_S2x16_S2x1x16_0_2 C)))

/-- A column of the factor at an element: the matrix's column over the root of its diagonal element. -/
theorem column_apply (k : Nat) (hk : k < 16) (M : FVec Ideal S2x16x16 .f32) (h : S2x16x16.Slices ![0, 0, k] S2x16x1)
    (h' : S2x16x16.Slices ![0, k, k] S2x1x1) (c : Fin 2) (a : Fin 16) :
    column k M h h' (ix2 c a) = Ideal.div (M (ix3 c a ⟨k, hk⟩)) (Ideal.sqrt (M (ix3 c ⟨k, hk⟩ ⟨k, hk⟩))) := by
  pointwise [column]

/-- What is left of the matrix at an element. -/
theorem rest_apply (M : FVec Ideal S2x16x16 .f32) (C : FVec Ideal S2x16 .f32) (c : Fin 2) (a b : Fin 16) :
    rest M C (ix3 c a b) = (M (ix3 c a b) : EReal) - C (ix2 c a) * C (ix2 c b) := by
  pointwise [rest]

/-- The identity from row `k` on and zero before it. -/
def Left (k : Nat) (M : FVec Ideal S2x16x16 .f32) : Prop :=
  ∀ (c : Fin 2) (a b : Fin 16), (M (ix3 c a b) : EReal) = if a = b ∧ k ≤ a.val then 1 else 0

/-- Column `k` of the identity. -/
def Column (k : Nat) (C : FVec Ideal S2x16 .f32) : Prop :=
  ∀ (c : Fin 2) (a : Fin 16), (C (ix2 c a) : EReal) = if a.val = k then 1 else 0

/-- The root of one is one. -/
theorem sqrt_unit : Ideal.sqrt 1 = 1 := by
  rw [← EReal.coe_one, Ideal.sqrt_coe, if_neg (by norm_num), Real.sqrt_one]

/-- Division by one changes nothing. -/
theorem div_unit (x : EReal) : Ideal.div x 1 = x := by
  unfold Ideal.div
  rw [if_neg one_ne_zero, ← EReal.coe_one, ← EReal.coe_inv, inv_one, EReal.coe_one, mul_one]

/-- One column's step on the identity. -/
theorem step (k : Nat) (hk : k < 16) (M : FVec Ideal S2x16x16 .f32) (h : S2x16x16.Slices ![0, 0, k] S2x16x1)
    (h' : S2x16x16.Slices ![0, k, k] S2x1x1) (hM : Left k M) :
    Column k (column k M h h') ∧ Left (k + 1) (rest M (column k M h h')) := by
  have hC : Column k (column k M h h') := by
    intro c a
    have hd : (M (ix3 c ⟨k, hk⟩ ⟨k, hk⟩) : EReal) = 1 := (hM c _ _).trans (if_pos ⟨rfl, le_refl k⟩)
    rw [column_apply k hk, hd, sqrt_unit, div_unit, hM]
    refine if_congr ?_ rfl rfl
    rw [Fin.ext_iff]
    dsimp only
    omega
  refine ⟨hC, fun c a b => ?_⟩
  rw [rest_apply, hM, hC, hC]
  by_cases hab : a = b
  · subst hab
    by_cases ha : a.val = k
    · rw [if_pos ⟨rfl, ha.ge⟩, if_pos ha, if_neg (by omega), one_mul, ← EReal.coe_one, ← EReal.coe_sub, sub_self, EReal.coe_zero]
    · rw [if_neg ha, zero_mul, sub_zero]
      refine if_congr ?_ rfl rfl
      omega
  · have hne : ¬(a.val = k ∧ b.val = k) := fun e => hab (Fin.ext (e.1.trans e.2.symm))
    rw [if_neg fun e : a = b ∧ k ≤ a.val => hab e.1, if_neg fun e : a = b ∧ k + 1 ≤ a.val => hab e.1]
    by_cases ha : a.val = k
    · rw [if_neg fun hb => hne ⟨ha, hb⟩, mul_zero, sub_zero]
    · rw [if_neg ha, zero_mul, sub_zero]

variable (x2 x4 : FVec Ideal S16x16 .f32)

/-- The two covariances stacked. -/
theorem base (h2 : ∀ a b : Fin 16, (x2 (ix2 a b) : EReal) = if a = b then 1 else 0)
    (h4 : ∀ a b : Fin 16, (x4 (ix2 a b) : EReal) = if a = b then 1 else 0) :
    Left 0 (val_main_v193 (F := Ideal) x2 x4) := by
  intro c a b
  rw [show (if a = b ∧ 0 ≤ a.val then (1 : EReal) else 0) = if a = b then 1 else 0 from if_congr (by simp) rfl rfl]
  have h : (val_main_v193 (F := Ideal) x2 x4 (ix3 c a b) : EReal)
      = if c.val < 1 then x2 (ix2 a b) else x4 (ix2 a b) := by
    pointwise [val_main_v193, val_main_v191, val_main_v192]
    rfl
  rw [h, h2, h4, ite_self]

/-- The sixteen columns. -/
theorem columns (h2 : ∀ a b : Fin 16, (x2 (ix2 a b) : EReal) = if a = b then 1 else 0)
    (h4 : ∀ a b : Fin 16, (x4 (ix2 a b) : EReal) = if a = b then 1 else 0) :
    Column 0 (val_main_v201 (F := Ideal) x2 x4)
      ∧ Column 1 (val_main_v215 (F := Ideal) x2 x4)
      ∧ Column 2 (val_main_v229 (F := Ideal) x2 x4)
      ∧ Column 3 (val_main_v243 (F := Ideal) x2 x4)
      ∧ Column 4 (val_main_v257 (F := Ideal) x2 x4)
      ∧ Column 5 (val_main_v271 (F := Ideal) x2 x4)
      ∧ Column 6 (val_main_v285 (F := Ideal) x2 x4)
      ∧ Column 7 (val_main_v299 (F := Ideal) x2 x4)
      ∧ Column 8 (val_main_v313 (F := Ideal) x2 x4)
      ∧ Column 9 (val_main_v327 (F := Ideal) x2 x4)
      ∧ Column 10 (val_main_v341 (F := Ideal) x2 x4)
      ∧ Column 11 (val_main_v355 (F := Ideal) x2 x4)
      ∧ Column 12 (val_main_v369 (F := Ideal) x2 x4)
      ∧ Column 13 (val_main_v383 (F := Ideal) x2 x4)
      ∧ Column 14 (val_main_v397 (F := Ideal) x2 x4)
      ∧ Column 15 (val_main_v411 (F := Ideal) x2 x4) := by
  have s0 : Column 0 (val_main_v201 (F := Ideal) x2 x4) ∧ Left 1 (val_main_v207 (F := Ideal) x2 x4) :=
    step 0 (by decide) (val_main_v193 (F := Ideal) x2 x4) slices_S2x16x16_S2x16x1_0_0_0 slices_S2x16x16_S2x1x1_0_0_0 (base x2 x4 h2 h4)
  have s1 : Column 1 (val_main_v215 (F := Ideal) x2 x4) ∧ Left 2 (val_main_v221 (F := Ideal) x2 x4) :=
    step 1 (by decide) (val_main_v207 (F := Ideal) x2 x4) slices_S2x16x16_S2x16x1_0_0_1 slices_S2x16x16_S2x1x1_0_1_1 s0.2
  have s2 : Column 2 (val_main_v229 (F := Ideal) x2 x4) ∧ Left 3 (val_main_v235 (F := Ideal) x2 x4) :=
    step 2 (by decide) (val_main_v221 (F := Ideal) x2 x4) slices_S2x16x16_S2x16x1_0_0_2 slices_S2x16x16_S2x1x1_0_2_2 s1.2
  have s3 : Column 3 (val_main_v243 (F := Ideal) x2 x4) ∧ Left 4 (val_main_v249 (F := Ideal) x2 x4) :=
    step 3 (by decide) (val_main_v235 (F := Ideal) x2 x4) slices_S2x16x16_S2x16x1_0_0_3 slices_S2x16x16_S2x1x1_0_3_3 s2.2
  have s4 : Column 4 (val_main_v257 (F := Ideal) x2 x4) ∧ Left 5 (val_main_v263 (F := Ideal) x2 x4) :=
    step 4 (by decide) (val_main_v249 (F := Ideal) x2 x4) slices_S2x16x16_S2x16x1_0_0_4 slices_S2x16x16_S2x1x1_0_4_4 s3.2
  have s5 : Column 5 (val_main_v271 (F := Ideal) x2 x4) ∧ Left 6 (val_main_v277 (F := Ideal) x2 x4) :=
    step 5 (by decide) (val_main_v263 (F := Ideal) x2 x4) slices_S2x16x16_S2x16x1_0_0_5 slices_S2x16x16_S2x1x1_0_5_5 s4.2
  have s6 : Column 6 (val_main_v285 (F := Ideal) x2 x4) ∧ Left 7 (val_main_v291 (F := Ideal) x2 x4) :=
    step 6 (by decide) (val_main_v277 (F := Ideal) x2 x4) slices_S2x16x16_S2x16x1_0_0_6 slices_S2x16x16_S2x1x1_0_6_6 s5.2
  have s7 : Column 7 (val_main_v299 (F := Ideal) x2 x4) ∧ Left 8 (val_main_v305 (F := Ideal) x2 x4) :=
    step 7 (by decide) (val_main_v291 (F := Ideal) x2 x4) slices_S2x16x16_S2x16x1_0_0_7 slices_S2x16x16_S2x1x1_0_7_7 s6.2
  have s8 : Column 8 (val_main_v313 (F := Ideal) x2 x4) ∧ Left 9 (val_main_v319 (F := Ideal) x2 x4) :=
    step 8 (by decide) (val_main_v305 (F := Ideal) x2 x4) slices_S2x16x16_S2x16x1_0_0_8 slices_S2x16x16_S2x1x1_0_8_8 s7.2
  have s9 : Column 9 (val_main_v327 (F := Ideal) x2 x4) ∧ Left 10 (val_main_v333 (F := Ideal) x2 x4) :=
    step 9 (by decide) (val_main_v319 (F := Ideal) x2 x4) slices_S2x16x16_S2x16x1_0_0_9 slices_S2x16x16_S2x1x1_0_9_9 s8.2
  have s10 : Column 10 (val_main_v341 (F := Ideal) x2 x4) ∧ Left 11 (val_main_v347 (F := Ideal) x2 x4) :=
    step 10 (by decide) (val_main_v333 (F := Ideal) x2 x4) slices_S2x16x16_S2x16x1_0_0_10 slices_S2x16x16_S2x1x1_0_10_10 s9.2
  have s11 : Column 11 (val_main_v355 (F := Ideal) x2 x4) ∧ Left 12 (val_main_v361 (F := Ideal) x2 x4) :=
    step 11 (by decide) (val_main_v347 (F := Ideal) x2 x4) slices_S2x16x16_S2x16x1_0_0_11 slices_S2x16x16_S2x1x1_0_11_11 s10.2
  have s12 : Column 12 (val_main_v369 (F := Ideal) x2 x4) ∧ Left 13 (val_main_v375 (F := Ideal) x2 x4) :=
    step 12 (by decide) (val_main_v361 (F := Ideal) x2 x4) slices_S2x16x16_S2x16x1_0_0_12 slices_S2x16x16_S2x1x1_0_12_12 s11.2
  have s13 : Column 13 (val_main_v383 (F := Ideal) x2 x4) ∧ Left 14 (val_main_v389 (F := Ideal) x2 x4) :=
    step 13 (by decide) (val_main_v375 (F := Ideal) x2 x4) slices_S2x16x16_S2x16x1_0_0_13 slices_S2x16x16_S2x1x1_0_13_13 s12.2
  have s14 : Column 14 (val_main_v397 (F := Ideal) x2 x4) ∧ Left 15 (val_main_v403 (F := Ideal) x2 x4) :=
    step 14 (by decide) (val_main_v389 (F := Ideal) x2 x4) slices_S2x16x16_S2x16x1_0_0_14 slices_S2x16x16_S2x1x1_0_14_14 s13.2
  have s15 : Column 15 (val_main_v411 (F := Ideal) x2 x4) ∧ Left 16 (val_main_v417 (F := Ideal) x2 x4) :=
    step 15 (by decide) (val_main_v403 (F := Ideal) x2 x4) slices_S2x16x16_S2x16x1_0_0_15 slices_S2x16x16_S2x1x1_0_15_15 s14.2
  exact ⟨s0.1, s1.1, s2.1, s3.1, s4.1, s5.1, s6.1, s7.1, s8.1, s9.1, s10.1, s11.1, s12.1, s13.1, s14.1, s15.1⟩

end Cert.Mix.Ref

end
-- ==== Proof.Mix.KernelMask.lean ====
/-
  The kernel's mask at a lane over the extended reals: whether the greatest of the first five
  numbers of the lane's row is at least the greatest of the last five.
-/
module

public import proofs.«01_k».proof.Proof.Gen.KernelIdeal.Frame
public import Idealize.ShloMosaic.Lib.Pointwise
public import Idealize.ShloMosaic.PureOps.Ideal.Laws

@[expose] public section

noncomputable section

namespace Cert.Mix

open Idealize.ShloMosaic

/-- The greatest of five numbers, none below −∞. -/
def top5 (y : Fin 5 → EReal) : EReal :=
  Finset.fold max (Ideal.ofBits .f32 0xFF800000#32) y Finset.univ

/-- Whether the greatest of the first five of ten numbers is at least that of the last five. -/
def firstHalf (y : Fin 10 → EReal) : BitVec 1 :=
  BitVec.ofBool (decide (top5 (fun k => y ⟨5 + k.val, by omega⟩) ≤ top5 (fun k => y ⟨k.val, by omega⟩)))

/-- A bit made a number and compared with a half is the bit. -/
theorem half_lt (b : BitVec 1) :
    BitVec.ofBool (decide (Ideal.ofBits .f32 0x3F000000#32
      < FloatOps.sitofp (F := Ideal) .f32 (BitVec.setWidth 32 b))) = b := by
  have hh : Ideal.ofBits .f32 0x3F000000#32 = ((1 / 2 : ℝ) : EReal) := by
    simp [Ideal.ofBits, Ideal.ieee, -EReal.coe_mul]; norm_num
  have hs : FloatOps.sitofp (F := Ideal) .f32 (BitVec.setWidth 32 b)
      = (((BitVec.setWidth 32 b).toInt : ℝ) : EReal) := rfl
  rw [hh, hs]
  rcases BitVec.eq_zero_or_eq_one b with rfl | rfl
  · rw [decide_eq_false]
    · rfl
    · rw [EReal.coe_lt_coe_iff]
      norm_num
  · rw [decide_eq_true]
    · rfl
    · rw [EReal.coe_lt_coe_iff]
      norm_num

namespace Kernel

open Cert.KernelIdeal Cert.KernelIdeal.Gen

/-- The mask at row `p0` and lane `p1` is that of the block's row `512 * (p1 / 16) + p0`. -/
theorem mask_apply (v : Vec Ideal S4096x10 .f32) (p0 : Fin 512) (p1 : Fin 128) :
    k0_pay8 v (ix2 p0 p1)
      = firstHalf fun k => v (ix2 ⟨512 * (p1.val / 16) + p0.val, by omega⟩ k) := by
  have key (a : Fin 4096) (h : a.val = 512 * (p1.val / 16) + p0.val) :
      (BitVec.ofBool (decide (top5 (fun k => v (ix2 a ⟨5 + k.val, by omega⟩))
        ≤ top5 (fun k => v (ix2 a ⟨k.val, by omega⟩)))) : BitVec 1)
      = firstHalf fun k => v (ix2 ⟨512 * (p1.val / 16) + p0.val, by omega⟩ k) := by
    have ha : a = ⟨512 * (p1.val / 16) + p0.val, by omega⟩ := Fin.ext h
    exact congrArg (fun a => firstHalf fun k => v (ix2 a k)) ha
  have hp := p1.isLt
  pointwise [k0_pay8]
  split_ifs
  all_goals
    rw [half_lt]
    exact key ⟨_, _⟩ (by dsimp only; omega)

end Kernel

end Cert.Mix

end
-- ==== Proof.Mix.RefMask.lean ====
/-
  The reference's mask: a row belongs to the first component when the first place of its greatest number is among
  the first five. That is the kernel's mask, which compares the greatest of the two halves.
-/
module

public import proofs.«01_k».proof.Proof.Gen.ReferenceIdeal.Read
public import proofs.«01_k».proof.Proof.Mix.KernelMask
public import Idealize.ShloMosaic.Lib.Pointwise

@[expose] public section

noncomputable section

namespace Cert.Mix

open Idealize.ShloMosaic

/-- The start of the maximum is the least number. -/
theorem ofBits_bot : Ideal.ofBits .f32 0xFF800000#32 = ⊥ := by
  simp [Ideal.ofBits, Ideal.ieee]

/-- The greatest of the ten numbers of a row. -/
def top (y : Fin 10 → EReal) : EReal :=
  Finset.fold max (Ideal.ofBits .f32 0xFF800000#32) y Finset.univ

/-- Position `k` where the row has its greatest number, ten elsewhere. -/
def place (y : Fin 10 → EReal) (k : Fin 10) : BitVec 32 :=
  Scalar.select (FloatOps.cmpf (F := Ideal) (φ := .f32) .oeq (y k) (top y)) (BitVec.ofNat 32 k.val) 10#32

/-- The smaller of two words is at most a third when one of them is. -/
theorem minsi_sle (x y n : BitVec 32) : (IntOp.minsi x y).sle n = true ↔ x.sle n = true ∨ y.sle n = true := by
  unfold IntOp.minsi
  simp only [BitVec.sle_iff_toInt_le, BitVec.slt_iff_toInt_lt]
  split <;> omega

/-- The smallest of many words is at most `n` when the first or one of the others is. -/
theorem fold_minsi_sle (b n : BitVec 32) (f : Fin 10 → BitVec 32) (s : Finset (Fin 10)) :
    (Finset.fold IntOp.minsi b f s).sle n = true ↔ b.sle n = true ∨ ∃ k ∈ s, (f k).sle n = true := by
  induction s using Finset.induction_on with
  | empty => simp
  | insert a s ha ih =>
    rw [Finset.fold_insert ha, minsi_sle, ih, Finset.exists_mem_insert]
    tauto

/-- The first place counts as at most four only where the greatest number stands in the first half. -/
theorem place_sle (y : Fin 10 → EReal) (k : Fin 10) : (place y k).sle 4#32 = true ↔ k.val < 5 ∧ y k = top y := by
  have hc : FloatOps.cmpf (F := Ideal) (φ := .f32) .oeq (y k) (top y) = BitVec.ofBool (decide (y k = top y)) := rfl
  have hk : ∀ k : Fin 10, (BitVec.ofNat 32 k.val).sle 4#32 = true ↔ k.val < 5 := by decide
  unfold place
  rw [hc]
  by_cases h : y k = top y
  · rw [decide_eq_true h]
    exact (hk k).trans ⟨fun e => ⟨e, h⟩, fun e => e.1⟩
  · rw [decide_eq_false h]
    exact ⟨fun e => absurd e (by change ¬(10#32).sle 4#32 = true; decide), fun e => absurd e.2 h⟩

/-- The greatest number stands in the first half when the first half's greatest is not below the second's. -/
theorem top_first (y : Fin 10 → EReal) : (∃ k : Fin 10, k.val < 5 ∧ y k = top y)
    ↔ top5 (fun k => y ⟨5 + k.val, by omega⟩) ≤ top5 (fun k => y ⟨k.val, by omega⟩) := by
  have le_top (k : Fin 10) : y k ≤ top y := Finset.le_fold_max _ |>.mpr (Or.inr ⟨k, Finset.mem_univ k, le_refl _⟩)
  constructor
  · rintro ⟨k, hk, e⟩
    refine le_trans ((Finset.fold_max_le _).mpr ⟨?_, fun j _ => le_top _⟩)
      (e ▸ (Finset.le_fold_max _).mpr (Or.inr ⟨⟨k.val, hk⟩, Finset.mem_univ _, le_refl _⟩))
    rw [ofBits_bot]
    exact bot_le
  · intro h
    obtain ⟨k, hk⟩ := Finite.exists_max fun k : Fin 5 => y ⟨k.val, by omega⟩
    have hlo : top5 (fun k => y ⟨k.val, by omega⟩) ≤ y ⟨k.val, by omega⟩ :=
      (Finset.fold_max_le _).mpr ⟨ofBits_bot ▸ bot_le, fun j _ => hk j⟩
    refine ⟨⟨k.val, by omega⟩, k.isLt, le_antisymm (le_top _) ((Finset.fold_max_le _).mpr ⟨ofBits_bot ▸ bot_le, fun j _ => ?_⟩)⟩
    by_cases hj : j.val < 5
    · exact hk ⟨j.val, hj⟩
    · have hj' : y j ≤ top5 (fun k => y ⟨5 + k.val, by omega⟩) :=
        (Finset.le_fold_max _).mpr (Or.inr ⟨⟨j.val - 5, by omega⟩, Finset.mem_univ _, le_of_eq (congrArg y (Fin.ext (by dsimp only; omega)))⟩)
      exact hj'.trans (h.trans hlo)

/-- The two masks are one. -/
theorem first_place (y : Fin 10 → EReal) :
    IntOp.cmpi .sle (Finset.fold IntOp.minsi 2147483647#32 (place y) Finset.univ) 4#32 = firstHalf y := by
  have h : (Finset.fold IntOp.minsi 2147483647#32 (place y) Finset.univ).sle 4#32 = true
      ↔ top5 (fun k => y ⟨5 + k.val, by omega⟩) ≤ top5 (fun k => y ⟨k.val, by omega⟩) := by
    rw [fold_minsi_sle, ← top_first]
    simp only [place_sle, Finset.mem_univ, true_and]
    exact or_iff_right (by decide)
  change BitVec.ofBool ((Finset.fold IntOp.minsi 2147483647#32 (place y) Finset.univ).sle 4#32) = _
  exact congrArg BitVec.ofBool (Bool.eq_iff_iff.mpr (h.trans decide_eq_true_iff.symm))

namespace Ref

open Cert.ReferenceIdeal Cert.ReferenceIdeal.Gen Cert.ReferenceIdeal.Read

variable (x0 : FVec Ideal S16384x10 .f32)

/-- The greatest score of a row. -/
theorem top_apply (r : Fin 16384) :
    (val_main_v1 (F := Ideal) x0 (ix1 r) : EReal) = top fun k => x0 (ix2 r k) := by
  pointwise [val_main_v1]
  rfl

/-- What the reference takes the least of, at a score. -/
theorem place_apply (r : Fin 16384) (k : Fin 10) :
    val_main_v5 (F := Ideal) x0 (ix2 r k) = place (fun k => x0 (ix2 r k)) k := by
  unfold place
  rw [← top_apply]
  pointwise [val_main_v5, val_main_v4, val_main_v3, val_main_v2, val_main_v0]
  rfl

/-- The reference's mask at a row. -/
theorem mask_apply (r : Fin 16384) :
    val_main_v706 (F := Ideal) x0 (ix1 r) = firstHalf fun k => x0 (ix2 r k) := by
  rw [← first_place]
  pointwise [val_main_v706, val_main_v6]
  simp only [place_apply]
  rfl

end Ref

end Cert.Mix

end
-- ==== Proof.Mix.KernelWord.lean ====
/-
  The integer half of the kernel's block, read at one lane: the cipher of Proof/Mix/Cipher.lean.
-/
module

public import proofs.«01_k».proof.Proof.Gen.KernelIdeal.Frame
public import proofs.«01_k».proof.Proof.Mix.Cipher

@[expose] public section

noncomputable section

namespace Cert.Mix.Kernel

open Idealize.ShloMosaic Cert.KernelIdeal Cert.KernelIdeal.Gen

variable {F : FTy → Type} [FloatOps F]

/-- Rounds one to four and the injection after them. -/
theorem rounds1 (g : BitVec 32) (a b r l q u : IVec S512x128 32) (p : S512x128.Idx) :
    (k0_pay22 g a b r l q u p, k0_pay24 (k0_pay23 g a b r l q u) 1#32 p)
      = inject (b p) (third (a p) (b p)) 1
          (odd (0 + a p, (g * 4096 + q p * 512 + r p) * 16 + (l p &&& u p) + b p)) := rfl

/-- Up to the second round of the third group. -/
theorem rounds2 (a c x y : IVec S512x128 32) (p : S512x128.Idx) :
    (k0_pay35 a c x y 1#32 p, k0_pay37 (k0_pay35 a c x y 1#32) (k0_pay36 a c x y 1#32) p)
      = mix 15 17 (mix 13 19 (inject (c p) (a p) 2 (even (x p, k0_pay24 y 1#32 p)))) := rfl

/-- From there to the end of the fourth group. -/
theorem rounds3 (a b s t : IVec S512x128 32) (p : S512x128.Idx) :
    (k0_pay48 a b s t p, k0_pay49 a b s t p)
      = even (inject (a p) (b p) 3 (mix 6 26 (mix 26 6 (s p, k0_pay37 s t p)))) := rfl

/-- The last group, the joining of the two words, and the number made of them. -/
theorem rounds4 (a b c s t : IVec S512x128 32) (p : S512x128.Idx) (e : Pair)
    (h : e = inject (c p) (a p) 5 (odd (inject (b p) (c p) 4 (s p, t p)))) :
    k0_pay50 (F := F) a b c s t p
      = FloatOps.subf (FloatOps.ofBits .f32 (mantissa (e.1 ^^^ e.2))) (FloatOps.ofBits .f32 0x3F800000#32) := by
  subst h; rfl

/-- The counter of a lane: sixteen times the row of the array, plus the column. -/
def counter (g : BitVec 32) (p : S512x128.Idx) : BitVec 32 :=
  (g * 4096 + (BitVec.ofNat 32 (p 1).val >>> (4 : BitVec 32)) * 512 + BitVec.ofNat 32 (p 0).val) * 16
    + (BitVec.ofNat 32 (p 1).val &&& 15)

variable (i : grid0.Coords) (x0 : Vec F S4096x10 .f32) (x1 x2 : Vec F S1x128 .f32)

/-- The four index vectors at a lane. -/
theorem row_apply (p : S512x128.Idx) : k0_pay58 i x0 x1 x2 p = BitVec.ofNat 32 (p 0).val := by
  change BitVec.ofNat 32 (0 * _ + (p 0).val) = _
  rw [Nat.zero_mul, Nat.zero_add]

/-- The number of a lane. -/
theorem lane_apply (p : S512x128.Idx) : k0_pay59 i x0 x1 x2 p = BitVec.ofNat 32 (p 1).val := by
  change BitVec.ofNat 32 (0 * _ + (p 1).val) = _
  rw [Nat.zero_mul, Nat.zero_add]

/-- The group of a lane. -/
theorem group_apply (p : S512x128.Idx) :
    k0_pay63 i x0 x1 x2 p = BitVec.ofNat 32 (p 1).val >>> (4 : BitVec 32) := by
  rw [← lane_apply i x0 x1 x2]
  rfl

/-- The mask of the lower four bits. -/
theorem low_apply (p : S512x128.Idx) : k0_pay64 i x0 x1 x2 p = 15 := rfl

/-- The first group at a lane. -/
theorem first (p : S512x128.Idx) :
    (k0_pay66 i x0 x1 x2 p, k0_pay24 (k0_pay67 i x0 x1 x2) 1#32 p)
      = inject (k0_pay62 i x0 x1 x2 p) (third (k0_pay61 i x0 x1 x2 p) (k0_pay62 i x0 x1 x2 p)) 1
          (odd (0 + k0_pay61 i x0 x1 x2 p,
            counter (BitVec.ofNat 32 (i 0).val) p + k0_pay62 i x0 x1 x2 p)) := by
  unfold k0_pay66 k0_pay67
  refine (rounds1 _ (k0_pay61 i x0 x1 x2) (k0_pay62 i x0 x1 x2) (k0_pay58 i x0 x1 x2)
    (k0_pay59 i x0 x1 x2) (k0_pay63 i x0 x1 x2) (k0_pay64 i x0 x1 x2) p).trans ?_
  rw [row_apply, lane_apply, group_apply, low_apply]
  unfold counter
  rfl

/-- The third key word at a lane. -/
theorem third_apply (p : S512x128.Idx) :
    k0_pay65 i x0 x1 x2 p = third (k0_pay61 i x0 x1 x2 p) (k0_pay62 i x0 x1 x2 p) := rfl

/-- The number at a lane, from the lane's keys and counter. -/
theorem unit_apply (p : S512x128.Idx) :
    k0_pay70 i x0 x1 x2 p
      = FloatOps.subf (FloatOps.ofBits .f32 (mantissa (word (k0_pay61 i x0 x1 x2 p)
          (k0_pay62 i x0 x1 x2 p) (counter (BitVec.ofNat 32 (i 0).val) p))))
          (FloatOps.ofBits .f32 0x3F800000#32) := by
  have h1 := first i x0 x1 x2 p
  have h2 := rounds2 (k0_pay61 i x0 x1 x2) (k0_pay65 i x0 x1 x2) (k0_pay66 i x0 x1 x2)
    (k0_pay67 i x0 x1 x2) p
  have h3 := rounds3 (k0_pay61 i x0 x1 x2) (k0_pay62 i x0 x1 x2) (k0_pay68 i x0 x1 x2)
    (k0_pay69 i x0 x1 x2) p
  change (k0_pay68 i x0 x1 x2 p, k0_pay37 (k0_pay68 i x0 x1 x2) (k0_pay69 i x0 x1 x2) p) = _ at h2
  rw [h2, h1, third_apply] at h3
  refine rounds4 (F := F) (k0_pay61 i x0 x1 x2) (k0_pay62 i x0 x1 x2) (k0_pay65 i x0 x1 x2) _ _ p
    (threefry (k0_pay61 i x0 x1 x2 p) (k0_pay62 i x0 x1 x2 p) 0
      (counter (BitVec.ofNat 32 (i 0).val) p)) ?_
  rw [h3, third_apply]
  unfold threefry odd
  rfl

end Cert.Mix.Kernel

end
-- ==== Proof.Mix.KernelNormal.lean ====
/-
  The floating half of the kernel's block, read at one lane over the extended reals.
-/
module

public import proofs.«01_k».proof.Proof.Mix.KernelWord
public import proofs.«01_k».proof.Proof.Mix.Normal
public import Idealize.ShloMosaic.Lib.Pointwise

@[expose] public section

noncomputable section

namespace Cert.Mix.Kernel

open Idealize.ShloMosaic Cert.KernelIdeal Cert.KernelIdeal.Gen

/-- The kernel's clamped argument is the stretched number. -/
theorem stretch_apply (u : FVec Ideal S512x128 .f32) (p : S512x128.Idx) :
    k0_pay52 u (k0_pay51 (F := Ideal)) p = stretch (u p) := rfl

/-- The logarithm of the block at a lane. -/
theorem w_apply (u : FVec Ideal S512x128 .f32) (p : S512x128.Idx) :
    k0_pay53 u (k0_pay51 (F := Ideal)) p = kernelW (k0_pay52 u (k0_pay51 (F := Ideal)) p) := rfl

/-- The middle polynomial. -/
theorem middle_apply (u : FVec Ideal S512x128 .f32) (p : S512x128.Idx) :
    k0_pay54 u (k0_pay51 (F := Ideal)) p
      = horner (FloatOps.subf (k0_pay53 u (k0_pay51 (F := Ideal)) p) (lit 0x40200000#32))
          (coefs.map fun c => lit c.1) := rfl

/-- The argument of the other polynomial at a lane. -/
theorem root_apply (u : FVec Ideal S512x128 .f32) (p : S512x128.Idx) :
    k0_pay55 u (k0_pay51 (F := Ideal)) p
      = FloatOps.subf (FloatOps.sqrt (k0_pay53 u (k0_pay51 (F := Ideal)) p)) (lit 0x40400000#32) := rfl

/-- The last stretch of the block at a lane: the other polynomial, the choice, the scaling, and the
    mean under the mask added. -/
theorem sample_apply (b : IVec S512x128 1) (x w m t : FVec Ideal S512x128 .f32)
    (x1 x2 : Vec Ideal S1x128 .f32) (p : S512x128.Idx) :
    k0_pay56 b x w m t x1 x2 p
      = FloatOps.addf (Scalar.select (b p) (x1 (ix2 0 (p 1))) (x2 (ix2 0 (p 1))))
          (FloatOps.mulf (lit 0x3FB504F3#32) (FloatOps.mulf
            (Scalar.select (FloatOps.cmpf .olt (w p) (lit 0x40A00000#32)) (m p)
              (horner (t p) (coefs.map fun c => lit c.2))) (x p))) := by
  pointwise [k0_pay56]
  rfl

end Cert.Mix.Kernel

end
-- ==== Proof.Mix.KernelBlock.lean ====
/-
  What one block of the kernel leaves, an element at a time: the element in row `q` and component `j` is the
  row's mean under the row's mask plus the normal number drawn with the mask's keys at the element's counter.
-/
module

public import proofs.«01_k».proof.Proof.Mix.KernelNormal
public import proofs.«01_k».proof.Proof.Mix.KernelMask
public import Idealize.ShloMosaic.Lib.Pipeline.Value

@[expose] public section

noncomputable section

namespace Cert.Mix

open Idealize.ShloMosaic

/-- One element of the result: the mean the mask chooses, plus the normal number of the mask's key at the
    element's counter. -/
def sample (b : BitVec 1) (n : BitVec 32) (u v : Ideal .f32) : Ideal .f32 :=
  FloatOps.addf (Scalar.select b u v)
    (normal (Scalar.select b 1832780943#32 64467757#32) (Scalar.select b 270669613#32 2916123636#32) n)

namespace Kernel

open Cert.KernelIdeal Cert.KernelIdeal.Gen

/-- A lane number's two fields: its group of sixteen and its place in the group. -/
theorem lane_fields : ∀ l : Fin 128,
    BitVec.ofNat 32 l.val >>> (4 : BitVec 32) = BitVec.ofNat 32 (l.val / 16)
      ∧ BitVec.ofNat 32 l.val &&& (15 : BitVec 32) = BitVec.ofNat 32 (l.val % 16) := by
  decide +kernel

/-- The counter of a lane is the element's number in the whole result. -/
theorem counter_apply (t : Nat) (p0 : Fin 512) (p1 : Fin 128) :
    counter (BitVec.ofNat 32 t) (ix2 p0 p1 : S512x128.Idx)
      = BitVec.ofNat 32 ((4096 * t + (512 * (p1.val / 16) + p0.val)) * 16 + p1.val % 16) := by
  have h := lane_fields p1
  change (BitVec.ofNat 32 t * 4096 + (BitVec.ofNat 32 p1.val >>> (4 : BitVec 32)) * 512
    + BitVec.ofNat 32 p0.val) * 16 + (BitVec.ofNat 32 p1.val &&& 15) = _
  rw [h.1, h.2]
  apply BitVec.eq_of_toNat_eq
  have e1 : (4096 : BitVec 32).toNat = 4096 := rfl
  have e2 : (512 : BitVec 32).toNat = 512 := rfl
  have e3 : (16 : BitVec 32).toNat = 16 := rfl
  simp only [BitVec.toNat_add, BitVec.toNat_mul, BitVec.toNat_ofNat, e1, e2, e3]
  omega

variable (i : grid0.Coords) (x0 : Vec Ideal S4096x10 .f32) (x1 x2 : Vec Ideal S1x128 .f32)

/-- The origin of a load. -/
theorem zeros : (![0, 0] : Fin 2 → Nat) = fun _ => 0 := funext fun a => by fin_cases a <;> rfl

/-- The load of the rows reads all of them. -/
theorem ld_rows : View.ld x0 r0_0 = x0 := View.ld_unit_zero (S := S4096x10) zeros _ x0

/-- The load of a tiled mean reads all of it. -/
theorem ld_tile : View.ld x1 r0_1 = x1 := View.ld_unit_zero (S := S1x128) zeros _ x1

/-- The mask the block chooses by. -/
theorem mask_eq : k0_pay60 i x0 x1 x2 = k0_pay8 x0 := by
  unfold k0_pay60
  rw [ld_rows]

/-- The first word of the key that the mask chooses at a lane. -/
theorem key_first (p : S512x128.Idx) :
    k0_pay61 i x0 x1 x2 p = Scalar.select (k0_pay8 x0 p) 1832780943#32 64467757#32 := by
  unfold k0_pay61
  rw [ld_rows]
  rfl

/-- The second word of it. -/
theorem key_second (p : S512x128.Idx) :
    k0_pay62 i x0 x1 x2 p = Scalar.select (k0_pay8 x0 p) 270669613#32 2916123636#32 := by
  unfold k0_pay62
  rw [ld_rows]
  rfl

/-- The element a lane holds. -/
theorem lane_sample (p0 : Fin 512) (p1 : Fin 128) :
    k0_pay75 i x0 x1 x2 (ix2 p0 p1)
      = sample (firstHalf fun k => x0 (ix2 ⟨512 * (p1.val / 16) + p0.val, by omega⟩ k))
          (BitVec.ofNat 32 ((4096 * (i 0).val + (512 * (p1.val / 16) + p0.val)) * 16 + p1.val % 16))
          (x1 (ix2 0 p1)) (x2 (ix2 0 p1)) := by
  have hu := unit_apply i x0 x1 x2 (ix2 p0 p1)
  rw [key_first, key_second, counter_apply, mask_apply] at hu
  unfold k0_pay75
  rw [ld_tile, ld_tile, sample_apply, mask_eq, mask_apply]
  unfold k0_pay71 k0_pay72 k0_pay73 k0_pay74
  rw [middle_apply, root_apply, w_apply, stretch_apply, hu]
  rfl

/-- What the block leaves, as one function of the block's index. -/
def blockValue (q : S4096x16.Idx) : Ideal .f32 :=
  sample (firstHalf fun k => x0 (ix2 (q 0) k))
    (BitVec.ofNat 32 ((4096 * (i 0).val + (q 0).val) * 16 + (q 1).val))
    (x1 (ix2 0 ⟨16 * ((q 0).val / 512) + (q 1).val, by have := (q 0).isLt; have := (q 1).isLt; change (q 0).val < 4096 at *; change (q 1).val < 16 at *; omega⟩))
    (x2 (ix2 0 ⟨16 * ((q 0).val / 512) + (q 1).val, by have := (q 0).isLt; have := (q 1).isLt; change (q 0).val < 4096 at *; change (q 1).val < 16 at *; omega⟩))

/-- A lane of the tile holds the element of row `512 * s + p0` and component `c`, for lane `16 * s + c`. -/
theorem lane_block (s : Nat) (hs : s < 8) (p0 : Fin 512) (c : Fin 16) :
    k0_pay75 i x0 x1 x2 (ix2 p0 ⟨16 * s + c.val, by omega⟩)
      = blockValue i x0 x1 x2 (ix2 ⟨512 * s + p0.val, by omega⟩ c) := by
  have h1 : (16 * s + c.val) / 16 = s := by omega
  have h2 : (16 * s + c.val) % 16 = c.val := by omega
  have h3 : (512 * s + p0.val) / 512 = s := by omega
  rw [lane_sample]
  unfold blockValue
  simp only [h1, h2]
  change sample _ _ _ _ = sample _ _ (x1 (ix2 0 ⟨16 * ((512 * s + p0.val) / 512) + c.val, _⟩))
    (x2 (ix2 0 ⟨16 * ((512 * s + p0.val) / 512) + c.val, _⟩))
  simp only [h3]
  rfl

/-- One of the eight pieces: sixteen lanes of the tile, stored as 512 rows of the block. -/
theorem piece (s : Nat) (hs : s < 8) (inb : ∀ a, (![512 * s, 0] : Fin 2 → Nat) a + S512x16.size a ≤ S4096x16.size a)
    (h : S512x128.Slices ![0, 16 * s] S512x16) (x : S512x16.Idx) :
    extractStridedSlice S512x16 ![0, 16 * s] (k0_pay75 i x0 x1 x2) h x
      = blockValue i x0 x1 x2 ((Rect.unit (s := S4096x16) ![512 * s, 0] S512x16.size inb).emb x) := by
  have hl : extractStridedSlice S512x16 ![0, 16 * s] (k0_pay75 i x0 x1 x2) h x
      = k0_pay75 i x0 x1 x2 (ix2 (x 0) ⟨16 * s + (x 1).val, by have := (x 1).isLt; change (x 1).val < 16 at this; omega⟩) := by
    unfold extractStridedSlice
    congr 1
    funext a
    apply Fin.ext
    match a with
    | ⟨0, _⟩ => exact Nat.zero_add _
    | ⟨1, _⟩ => rfl
  have hr : (Rect.unit (s := S4096x16) ![512 * s, 0] S512x16.size inb).emb x
      = ix2 ⟨512 * s + (x 0).val, by have := (x 0).isLt; change (x 0).val < 512 at this; omega⟩ (x 1) := by
    funext a
    apply Fin.ext
    match a with
    | ⟨0, _⟩ => exact congrArg (512 * s + ·) (Nat.one_mul _)
    | ⟨1, _⟩ => exact (Nat.zero_add _).trans (Nat.one_mul _)
  rw [hl, hr]
  exact lane_block i x0 x1 x2 s hs (x 0) (x 1)

/-- The eight pieces make up the block. -/
theorem block_eq : out0_3 i x0 x1 x2 = blockValue i x0 x1 x2 := by
  funext y
  refine View.canon_apply_of_pieces (Val := Elt Ideal) (e := .f32) (blockValue i x0 x1 x2) _ ?_ y (cover0_3 _ _ _ _ _ _ _ _ y)
  simp only [List.forall_mem_cons, List.not_mem_nil, false_imp_iff, implies_true, and_true]
  exact ⟨piece i x0 x1 x2 7 (by decide) _ slices_S512x128_o0_112_S512x16,
    piece i x0 x1 x2 6 (by decide) _ slices_S512x128_o0_96_S512x16,
    piece i x0 x1 x2 5 (by decide) _ slices_S512x128_o0_80_S512x16,
    piece i x0 x1 x2 4 (by decide) _ slices_S512x128_o0_64_S512x16,
    piece i x0 x1 x2 3 (by decide) _ slices_S512x128_o0_48_S512x16,
    piece i x0 x1 x2 2 (by decide) _ slices_S512x128_o0_32_S512x16,
    piece i x0 x1 x2 1 (by decide) _ slices_S512x128_o0_16_S512x16,
    piece i x0 x1 x2 0 (by decide) _ slices_S512x128_o0_0_S512x16⟩

end Kernel

end Cert.Mix

end
-- ==== Proof.Mix.KernelArray.lean ====
/-
  What the kernel's second result holds: element `(r, j)` is the sample of row `r` at component `j`.
-/
module

public import proofs.«01_k».proof.Proof.Mix.KernelBlock
public import proofs.«01_k».proof.Proof.Gen.KernelIdeal.Value
public import Idealize.ShloMosaic.Lib.Claim

@[expose] public section

noncomputable section

namespace Cert.Mix

open Idealize.ShloMosaic Idealize.ShloMosaic.TcCoe Idealize.SL.Sem

/-- The whole second result as a function of the rows and the two means. -/
def samples (y : Fin 16384 → Fin 10 → Ideal .f32) (u v : Fin 16 → Ideal .f32) (r : Fin 16384) (j : Fin 16) : Ideal .f32 :=
  sample (firstHalf (y r)) (BitVec.ofNat 32 (r.val * 16 + j.val)) (u j) (v j)

namespace Kernel

open Cert.KernelIdeal Cert.KernelIdeal.Gen

variable (m : (ℓ : Loc nD τ sig) → Buf (Elt Ideal) ℓ) (c : Dev nD)

/-- A mean repeated eight times along the tile: lane `l` holds component `l % 16`. -/
def tile (u : FVec Ideal S16 .f32) : FVec Ideal S1x128 .f32 :=
  broadcastInDim S1x128 ![1] bcast_S128_S1x128_1
    (shapeCast S128 (broadcastInDim S8x16 ![0, 1] bcast_S1x16_S8x16_0_1 (shapeCast S1x16 u shapeCasts_S16_S1x16))
      shapeCasts_S8x16_S128)

/-- A tiled mean at a lane is the mean at the lane's place. -/
theorem tile_apply (u : FVec Ideal S16 .f32) (l : Fin 128) :
    tile u (ix2 0 l) = u (ix1 ⟨l.val % 16, by omega⟩) := by
  unfold tile
  pointwise

/-- The first mean arrives tiled. -/
theorem tile_first : V m c main_call0_v3 = tile (m ((c : Thread nD τ).loc main_arg1)) := by
  unfold_abbrev_sides
  after_results
  rfl

/-- The second mean arrives tiled. -/
theorem tile_second : V m c main_call0_v7 = tile (m ((c : Thread nD τ).loc main_arg3)) := by
  unfold_abbrev_sides
  after_results
  rfl

/-- Which block each window reads or writes at a point. -/
theorem windows (t : Fin cfg0.N) :
    win0_0.index t 0 = t.val ∧ win0_0.index t 1 = 0 ∧ win0_1.index t 0 = 0 ∧ win0_1.index t 1 = 0
      ∧ win0_2.index t 0 = 0 ∧ win0_2.index t 1 = 0 ∧ win0_3.index t 0 = t.val ∧ win0_3.index t 1 = 0
      ∧ (grid0.coords t 0).val = t.val := by
  rcases fin_N0 t with rfl | rfl | rfl | rfl <;> decide

/-- Point `t` reads the rows from `4096 * t` on. -/
theorem rows_apply (t : Fin cfg0.N) (q : Fin 4096) (k : Fin 10) (r : Fin 16384) (hr : r.val = 4096 * t.val + q.val) :
    (iblk m c 0 t : Vec Ideal S4096x10 .f32) (ix2 q k)
      = (m ((c : Thread nD τ).loc main_arg0) : Vec Ideal S16384x10 .f32) (ix2 r k) := by
  unfold iblk
  rw [View.read_apply]
  change V m c main_arg0 _ = _
  rw [V_main_arg0]
  congr 1
  funext a
  apply Fin.ext
  match a with
  | ⟨0, _⟩ => change win0_0.index t 0 * 4096 + 1 * q.val = r.val; rw [(windows t).1]; omega
  | ⟨1, _⟩ => change win0_0.index t 1 * 10 + 1 * k.val = k.val; rw [(windows t).2.1]; omega

/-- At every step the lane of the first mean holds the mean at the lane's place. -/
theorem first_apply (t : Fin cfg0.N) (l : Fin 128) :
    (iblk m c 1 t : Vec Ideal S1x128 .f32) (ix2 0 l)
      = (m ((c : Thread nD τ).loc main_arg1) : Vec Ideal S16 .f32) (ix1 ⟨l.val % 16, by omega⟩) := by
  unfold iblk
  rw [View.read_apply]
  change V m c main_call0_v3 _ = _
  rw [tile_first]
  refine (congrArg (tile _) ?_).trans (tile_apply _ l)
  funext a
  apply Fin.ext
  match a with
  | ⟨0, _⟩ => change win0_1.index t 0 * 1 + 1 * 0 = 0; rw [(windows t).2.2.1]
  | ⟨1, _⟩ => change win0_1.index t 1 * 128 + 1 * l.val = l.val; rw [(windows t).2.2.2.1]; omega

/-- At every step the lane of the second mean holds the mean at the lane's place. -/
theorem second_apply (t : Fin cfg0.N) (l : Fin 128) :
    (iblk m c 2 t : Vec Ideal S1x128 .f32) (ix2 0 l)
      = (m ((c : Thread nD τ).loc main_arg3) : Vec Ideal S16 .f32) (ix1 ⟨l.val % 16, by omega⟩) := by
  unfold iblk
  rw [View.read_apply]
  change V m c main_call0_v7 _ = _
  rw [tile_second]
  refine (congrArg (tile _) ?_).trans (tile_apply _ l)
  funext a
  apply Fin.ext
  match a with
  | ⟨0, _⟩ => change win0_2.index t 0 * 1 + 1 * 0 = 0; rw [(windows t).2.2.2.2.1]
  | ⟨1, _⟩ => change win0_2.index t 1 * 128 + 1 * l.val = l.val; rw [(windows t).2.2.2.2.2.1]; omega

/-- What the second result is shown to hold. -/
def result : Buf (Elt Ideal) ((c : Thread nD τ).loc main_v0_1) := fun (e : S16384x16.Idx) =>
  samples (fun r k => (m ((c : Thread nD τ).loc main_arg0) : Vec Ideal S16384x10 .f32) (ix2 r k))
    (fun j => (m ((c : Thread nD τ).loc main_arg1) : Vec Ideal S16 .f32) (ix1 j))
    (fun j => (m ((c : Thread nD τ).loc main_arg3) : Vec Ideal S16 .f32) (ix1 j)) (e 0) (e 1)

/-- Row `q` of the block at point `t` is row `4096 * t + q` of the result. -/
theorem block_result (t : Fin cfg0.N) (q : Fin 4096) (j : Fin 16) (r : Fin 16384) (hr : r.val = 4096 * t.val + q.val) :
    blockValue (grid0.coords t) (iblk m c 0 t) (iblk m c 1 t) (iblk m c 2 t) (ix2 q j) = result m c (ix2 r j) := by
  have hl : (⟨(16 * (q.val / 512) + j.val) % 16, by omega⟩ : Fin 16) = j := Fin.ext (by dsimp only; omega)
  unfold blockValue result samples
  change sample (firstHalf fun k => (iblk m c 0 t : Vec Ideal S4096x10 .f32) (ix2 q k))
    (BitVec.ofNat 32 ((4096 * (grid0.coords t 0).val + q.val) * 16 + j.val))
    ((iblk m c 1 t : Vec Ideal S1x128 .f32) (ix2 0 ⟨16 * (q.val / 512) + j.val, _⟩))
    ((iblk m c 2 t : Vec Ideal S1x128 .f32) (ix2 0 ⟨16 * (q.val / 512) + j.val, _⟩)) = _
  rw [first_apply, second_apply, (windows t).2.2.2.2.2.2.2.2]
  simp only [rows_apply m c t q _ r hr, hl, ← hr]
  rfl

/-- Each point writes back its block of the result. -/
theorem flushed_result (t : Fin cfg0.N) :
    (dats m 0 c).flushed 3 t = ((cfg0.win 3).blk t).view.read (Elt Ideal) (result m c) := by
  rw [Value.flushed3, block_eq]
  funext q
  rw [View.read_apply]
  have h0 : (q 0).val < 4096 := (q 0).isLt
  have hN : t.val < 4 := by have := t.isLt; have := N_0; change cfg0.N = 4 at this; omega
  have hq := block_result m c t (q 0) (q 1) ⟨4096 * t.val + (q 0).val, by omega⟩ rfl
  change blockValue _ _ _ _ q = _
  rw [show q = ix2 (q 0) (q 1) from eq_ix2 q]
  refine hq.trans (congrArg (result m c) ?_)
  funext a
  apply Fin.ext
  match a with
  | ⟨0, _⟩ => change 4096 * t.val + (q 0).val = win0_3.index t 0 * 4096 + 1 * (q 0).val; rw [(windows t).2.2.2.2.2.2.1]; omega
  | ⟨1, _⟩ => change (q 1).val = win0_3.index t 1 * 16 + 1 * (q 1).val; rw [(windows t).2.2.2.2.2.2.2.1]; omega

/-- The four blocks cover the result. -/
theorem covered (e : S16384x16.Idx) : ∃ t : Fin cfg0.N, (cfg0.win 3).flush t = true ∧ e ∈ ((cfg0.win 3).blk t).view.set := by
  have h0 : (e 0).val < 16384 := (e 0).isLt
  have h1 : (e 1).val < 16 := (e 1).isLt
  have hN : cfg0.N = 4 := N_0
  refine ⟨⟨(e 0).val / 4096, by omega⟩, flush0_3 _, ?_⟩
  generalize ht : (⟨(e 0).val / 4096, by omega⟩ : Fin cfg0.N) = t
  have hv : t.val = (e 0).val / 4096 := by rw [← ht]
  change e ∈ ((View.whole main_v0_1).slice (win0_3.rect t)).set
  rw [View.set_slice_whole, Rect.mem_set_unit]
  intro a
  match a with
  | ⟨0, _⟩ => change win0_3.index t 0 * 4096 ≤ (e 0).val ∧ (e 0).val < win0_3.index t 0 * 4096 + 4096
              rw [(windows t).2.2.2.2.2.2.1]; omega
  | ⟨1, _⟩ => change win0_3.index t 1 * 16 ≤ (e 1).val ∧ (e 1).val < win0_3.index t 1 * 16 + 16
              rw [(windows t).2.2.2.2.2.2.2.1]; omega

/-- So the second result ends holding the samples. -/
theorem array_eq : (dats m 0 c).arrAt 3 cfg0.N = result m c :=
  (dats m 0 c).arrAt_eq_of_cover 3 (result m c) (fun t _ => flushed_result m c t) (covered)

end Kernel

end Cert.Mix

end
-- ==== Proof.Mix.RefSample.lean ====
/-
  What the reference computes, an element at a time, when both covariances are the identity.
-/
module

public import proofs.«01_k».proof.Proof.Mix.RefNormal
public import proofs.«01_k».proof.Proof.Mix.RefFactor
public import proofs.«01_k».proof.Proof.Mix.RefMask
public import proofs.«01_k».proof.Proof.Mix.KernelArray

@[expose] public section

noncomputable section

namespace Cert.Mix.Ref

open Idealize.ShloMosaic Cert.ReferenceIdeal Cert.ReferenceIdeal.Gen Cert.ReferenceIdeal.Read

variable (x0 : FVec Ideal S16384x10 .f32) (x1 x3 : FVec Ideal S16 .f32) (x2 x4 : FVec Ideal S16x16 .f32)

/-- The factor of the identity is the identity. -/
theorem factor (h2 : ∀ a b : Fin 16, (x2 (ix2 a b) : EReal) = if a = b then 1 else 0)
    (h4 : ∀ a b : Fin 16, (x4 (ix2 a b) : EReal) = if a = b then 1 else 0) (c : Fin 2) (a b : Fin 16) :
    (val_main_v434 (F := Ideal) x2 x4 (ix3 c a b) : EReal) = if a = b then 1 else 0 := by
  obtain ⟨c0, c1, c2, c3, c4, c5, c6, c7, c8, c9, c10, c11, c12, c13, c14, c15⟩ := columns x2 x4 h2 h4
  pointwise [val_main_v434, val_main_v418, val_main_v419, val_main_v420, val_main_v421, val_main_v422, val_main_v423,
    val_main_v424, val_main_v425, val_main_v426, val_main_v427, val_main_v428, val_main_v429, val_main_v430,
    val_main_v431, val_main_v432, val_main_v433]
  simp only [Fin.ext_iff]
  rw [c0 c a, c1 c a, c2 c a, c3 c a, c4 c a, c5 c a, c6 c a, c7 c a, c8 c a, c9 c a, c10 c a, c11 c a,
    c12 c a, c13 c a, c14 c a, c15 c a]
  obtain ⟨n, hn⟩ := b
  interval_cases n <;> rfl

/-- So the correlated numbers are the numbers drawn. -/
theorem correlated (h2 : ∀ a b : Fin 16, (x2 (ix2 a b) : EReal) = if a = b then 1 else 0)
    (h4 : ∀ a b : Fin 16, (x4 (ix2 a b) : EReal) = if a = b then 1 else 0) (c : Fin 2) (r : Fin 16384) (j : Fin 16) :
    (val_main_v702 (F := Ideal) x2 x4 (ix3 c r j) : EReal) = val_main_v699 (F := Ideal) (ix3 c r j) := by
  have ht (k : Fin 16) : (val_main_v701 (F := Ideal) x2 x4 (ridx_main_v702 (ix3 c r j) k) : EReal)
      = if j = k then 1 else 0 := by
    rw [val_main_v701_apply, ← factor x2 x4 h2 h4 c j k]
    congr 1
    funext a
    match a with
    | ⟨0, _⟩ => rfl
    | ⟨1, _⟩ => rfl
    | ⟨2, _⟩ => rfl
  have hl : lidx_main_v702 (ix3 c r j) j = ix3 c r j := by
    funext a
    match a with
    | ⟨0, _⟩ => rfl
    | ⟨1, _⟩ => rfl
    | ⟨2, _⟩ => rfl
  rw [val_main_v702_apply, Finset.sum_eq_single j]
  · rw [ht, if_pos rfl, hl, mul_one]
  · intro k _ hk
    rw [ht, if_neg hk.symm, mul_zero]
  · exact fun h => absurd (Finset.mem_univ j) h

/-- The reference's second result at an element: the mask's choice between the two shifted numbers. -/
theorem choice (r : Fin 16384) (j : Fin 16) :
    (val_main_v712 (F := Ideal) x0 x1 x2 x3 x4 (ix2 r j) : EReal)
      = Scalar.select (val_main_v706 (F := Ideal) x0 (ix1 r))
          ((x1 (ix1 j) : EReal) + val_main_v702 (F := Ideal) x2 x4 (ix3 0 r j))
          ((x3 (ix1 j) : EReal) + val_main_v702 (F := Ideal) x2 x4 (ix3 1 r j)) := by
  pointwise [val_main_v712, val_main_call12_v0, val_main_v707, val_main_v709, val_main_v708, val_main_v711, val_main_v710,
    val_main_v704, val_main_v703, val_main_v700, val_main_v190, val_main_v188, val_main_v189]

/-- The reference's second result is the samples. -/
theorem result_apply (h2 : ∀ a b : Fin 16, (x2 (ix2 a b) : EReal) = if a = b then 1 else 0)
    (h4 : ∀ a b : Fin 16, (x4 (ix2 a b) : EReal) = if a = b then 1 else 0) (r : Fin 16384) (j : Fin 16) :
    (val_main_v712 (F := Ideal) x0 x1 x2 x3 x4 (ix2 r j) : EReal)
      = samples (fun r k => x0 (ix2 r k)) (fun j => x1 (ix1 j)) (fun j => x3 (ix1 j)) r j := by
  rw [choice, correlated x2 x4 h2 h4, correlated x2 x4 h2 h4, draw_first, draw_second, mask_apply]
  unfold samples sample
  rcases BitVec.eq_zero_or_eq_one (firstHalf fun k => x0 (ix2 r k)) with h | h <;> rw [h] <;> rfl

end Cert.Mix.Ref

end
-- ==== Proof.Mix.Agree.lean ====
/-
  The kernel and the reference return the same: what the stated condition on the covariances says of an element,
  and the two programs' runs.
-/
module

public import proofs.«01_k».proof.Proof.Mix.RefSample
public import proofs.«01_k».proof.Defs
public import proofs.«01_k».proof.Proof.Gen.ReferenceIdeal.Run

@[expose] public section

noncomputable section

namespace Cert.Mix

open Idealize.ShloMosaic Idealize.SL.Sem

/-- The condition's one broadcast, of a scalar into a square, is one. -/
theorem condition_facts : Cert.Pre_unit_covariances.Facts := ⟨by decide⟩

/-- A row's number and a column's are the same word exactly if they are the same. -/
theorem word_eq (a b : Fin 16) :
    IntOp.cmpi CmpIPredicate.eq (IntOp.addi (BitVec.ofNat 32 a.val) 0#32) (BitVec.ofNat 32 b.val)
      = if a = b then 1#1 else 0#1 := by
  revert a b
  decide

/-- What the condition compares a covariance with at an element: one on the diagonal and zero off it. -/
theorem unit_entry (a b : Fin 16) :
    (FloatOps.uitofp (F := Ideal) .f32
        (IntOp.cmpi CmpIPredicate.eq (IntOp.addi (BitVec.ofNat 32 a.val) 0#32) (BitVec.ofNat 32 b.val)) : EReal)
      = if a = b then 1 else 0 := by
  rw [word_eq]
  split_ifs
  · change (((1#1 : BitVec 1).toNat : ℝ) : EReal) = 1
    norm_num
  · change (((0#1 : BitVec 1).toNat : ℝ) : EReal) = 0
    norm_num

/-- A conjunction of two decided propositions is one only if both hold. -/
theorem both_of_andi (p q : Prop) [Decidable p] [Decidable q]
    (h : IntOp.andi (BitVec.ofBool (decide p)) (BitVec.ofBool (decide q)) = 1#1) : p ∧ q := by
  by_cases hp : p <;> by_cases hq : q <;> simp_all [IntOp.andi]

/-- Where the condition holds, both covariances are the identity. -/
theorem unit_of_condition (h : Cert.Pre_unit_covariances.Facts) (x0 : FVec Ideal ⟨2, ![16384, 10]⟩ .f32)
    (x1 x3 : FVec Ideal ⟨1, ![16]⟩ .f32) (x2 x4 : FVec Ideal ⟨2, ![16, 16]⟩ .f32)
    (hx : Cert.Pre_unit_covariances.fn (F := Ideal) x0 x1 x2 x3 x4 = fun _ => 1#1) (a b : Fin 16) :
    (x2 (ix2 a b) : EReal) = (if a = b then 1 else 0) ∧ (x4 (ix2 a b) : EReal) = if a = b then 1 else 0 := by
  have hx := congrFun hx (ix2 a b)
  pointwise [Cert.Pre_unit_covariances.fn] at hx
  obtain ⟨h2, h4⟩ := both_of_andi _ _ hx
  exact ⟨h2.trans (unit_entry a b), h4.trans (unit_entry a b)⟩

/-- From arguments that agree, with both covariances the identity, the kernel and the reference both end, leave their
    arguments alone and return the same two arrays: the class scores as they came, and the samples. -/
theorem algebraic : Cert.algebraic_KernelIdeal_ReferenceIdeal_pre_unit_covariances
    (hKernelIdeal := Cert.KernelIdeal.Gen.facts) (hReferenceIdeal := Cert.ReferenceIdeal.Gen.facts)
    (hPre_unit_covariances := condition_facts) := by
  intro m g m' g' hpre hagree
  refine ⟨fun c => m (c.tc.loc Cert.KernelIdeal.main_arg0), fun c => Kernel.result m c, ?_, ?_⟩
  · refine (θ_run Cert.KernelIdeal.defs _ _).mono (fun _ h c => ?_) (Cert.KernelIdeal.Value.run_blocks m g)
    obtain ⟨hv, h0, hrest⟩ := h c
    exact ⟨h0, hv.trans (Kernel.array_eq m c), h0, hrest⟩
  · refine (θ_run Cert.ReferenceIdeal.defs _ _).mono (fun _ h c => ?_) (Cert.ReferenceIdeal.Value.run (F := Ideal) m' g')
    obtain ⟨_, hv, h0, hrest⟩ := h c
    obtain ⟨e0, e1, e2, e3, e4⟩ := hagree c
    refine ⟨h0.trans e0, hv.trans ((Cert.ReferenceIdeal.Read.val_main_v712_eq _).trans ?_), h0, hrest⟩
    have hunit := unit_of_condition condition_facts _ _ _ _ _ (hpre c)
    change Cert.ReferenceIdeal.Read.val_main_v712 (F := Ideal) (m' (c.tc.loc Cert.ReferenceIdeal.main_arg0))
      (m' (c.tc.loc Cert.ReferenceIdeal.main_arg1)) (m' (c.tc.loc Cert.ReferenceIdeal.main_arg2))
      (m' (c.tc.loc Cert.ReferenceIdeal.main_arg3)) (m' (c.tc.loc Cert.ReferenceIdeal.main_arg4)) = _
    rw [e0, e1, e2, e3, e4]
    funext e
    rw [show e = ix2 (e 0) (e 1) from eq_ix2 e]
    exact Ref.result_apply _ _ _ _ _ (fun a b => (hunit a b).1) (fun a b => (hunit a b).2) (e 0) (e 1)

end Cert.Mix

end
-- ==== Proof.lean ====
/-
  The whole claim about the sampling kernel, put together from the programs' frames and the value proof in Mix/.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Read
public import proofs.«01_k».proof.Proof.Gen.ReferenceIdeal.Run
public import Idealize.ShloMosaic.Adequacy
public import proofs.«01_k».proof.Proof.Mix.Agree
public import Idealize.ShloMosaic.Init

@[expose] public section

noncomputable section

namespace Cert.Proof

open Idealize.ShloMosaic Idealize.SL.Sem Cert.Kernel

/-- The reference ends without fault and leaves its arguments as they were; it declares no counters. -/
theorem reference_frame : Cert.quiescent_ReferenceIdeal (hReferenceIdeal := Cert.ReferenceIdeal.Gen.facts) := fun m ρ _ =>
  (θ_run Cert.ReferenceIdeal.defs _ _).mono
    (fun r h => ⟨fun c => (h c).2.2, sem_eq_zero_of_no_sems (by decide) r.2⟩)
    (Cert.ReferenceIdeal.Value.run (F := Ideal) m ρ)

/-- Each program ends without fault and leaves its arguments and counters as they were, under the condition and without
    it; the ideal program is the kernel's own text; and the kernel and the reference return the same two arrays. -/
theorem claim : Cert.Claim :=
  ⟨Cert.Kernel.Gen.facts, Cert.KernelIdeal.Gen.facts, Cert.ReferenceIdeal.Gen.facts, Cert.Mix.condition_facts,
    fun m ρ _ => Cert.Kernel.Gen.frame m ρ,
    fun m ρ _ => Cert.KernelIdeal.Gen.frame m ρ,
    fun m ρ _ => Cert.KernelIdeal.Gen.frame m ρ,
    reference_frame,
    fun m ρ _ => reference_frame m ρ trivial,
    trivial,
    Cert.Mix.algebraic⟩

end Cert.Proof

end
